-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_image_sobel_weight [hPre_finite_image_sobel_weight : Cert.Pre_finite_image_sobel_weight.Facts] (m : (ℓ : Loc Cert.KernelIdeal.nD Cert.KernelIdeal.τ Cert.KernelIdeal.sig) → Buf (Elt Ideal) ℓ) : Prop :=
  ∀ c : Dev Cert.KernelIdeal.nD,
    (Cert.Pre_finite_image_sobel_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_image_sobel_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_image_sobel_weight [hPre_finite_image_sobel_weight : Cert.Pre_finite_image_sobel_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_image_sobel_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_image_sobel_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_image_sobel_weight [hKernelIdeal : Cert.KernelIdeal.Facts] [hPre_finite_image_sobel_weight : Cert.Pre_finite_image_sobel_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_image_sobel_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_image_sobel_weight [hReferenceIdeal : Cert.ReferenceIdeal.Facts] [hPre_finite_image_sobel_weight : Cert.Pre_finite_image_sobel_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_image_sobel_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_clear_of_bin_edges_pre_finite_image_sobel_weight [hKernelIdeal : Cert.KernelIdeal.Facts] [hReferenceIdeal : Cert.ReferenceIdeal.Facts] [hPre_finite_image_sobel_weight : Cert.Pre_finite_image_sobel_weight.Facts] [hOn_clear_of_bin_edges : Cert.On_clear_of_bin_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_image_sobel_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![32, 10, 64, 64]⟩ : Shape).Idx, (Cert.On_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![32, 10, 64, 64]⟩ : Shape).Idx, (Cert.On_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v202) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_image_sobel_weight : Cert.Pre_finite_image_sobel_weight.Facts) (hOn_clear_of_bin_edges : Cert.On_clear_of_bin_edges.Facts),
    quiescent_Kernel (hKernel := hKernel)
    ∧ quiescent_KernelIdeal (hKernelIdeal := hKernelIdeal)
    ∧ quiescent_KernelIdeal_pre_finite_image_sobel_weight (hKernelIdeal := hKernelIdeal) (hPre_finite_image_sobel_weight := hPre_finite_image_sobel_weight)
    ∧ quiescent_ReferenceIdeal (hReferenceIdeal := hReferenceIdeal)
    ∧ quiescent_ReferenceIdeal_pre_finite_image_sobel_weight (hReferenceIdeal := hReferenceIdeal) (hPre_finite_image_sobel_weight := hPre_finite_image_sobel_weight)
    ∧ preserves_Kernel_KernelIdeal
    ∧ algebraic_KernelIdeal_ReferenceIdeal_on_clear_of_bin_edges_pre_finite_image_sobel_weight (hKernelIdeal := hKernelIdeal) (hReferenceIdeal := hReferenceIdeal) (hPre_finite_image_sobel_weight := hPre_finite_image_sobel_weight) (hOn_clear_of_bin_edges := hOn_clear_of_bin_edges)
-- ==== On_clear_of_bin_edges.lean ====
abbrev S32x1x512x512 : Shape := ⟨4, ![32, 1, 512, 512]⟩
abbrev S2x1x3x3 : Shape := ⟨4, ![2, 1, 3, 3]⟩
abbrev S32x512x512 : Shape := ⟨3, ![32, 512, 512]⟩
abbrev S_ : Shape := ⟨0, ![]⟩
abbrev S32x514x514 : Shape := ⟨3, ![32, 514, 514]⟩
abbrev S1x1x1x1 : Shape := ⟨4, ![1, 1, 1, 1]⟩
abbrev S32x64x8x64x8 : Shape := ⟨5, ![32, 64, 8, 64, 8]⟩
abbrev S32x64x64 : Shape := ⟨3, ![32, 64, 64]⟩
abbrev S32x1x64x64 : Shape := ⟨4, ![32, 1, 64, 64]⟩
abbrev S32x10x64x64 : Shape := ⟨4, ![32, 10, 64, 64]⟩

class Facts : Prop where
  shapeCasts_S32x1x512x512_S32x512x512 : S32x1x512x512.ShapeCasts S32x512x512
  pads_S32x512x512_S32x514x514_000_110_110 : S32x512x512.Pads (![0, 1, 1] : Fin 3 → Nat) ![0, 1, 1] ![0, 0, 0] S32x514x514
  h_S_ : 0 < S_.numel
  slices_S2x1x3x3_S1x1x1x1_0_0_0_0 : S2x1x3x3.Slices ![0, 0, 0, 0] S1x1x1x1
  shapeCasts_S1x1x1x1_S_ : S1x1x1x1.ShapeCasts S_
  slices_S32x514x514_S32x512x512_0_0_0 : S32x514x514.Slices ![0, 0, 0] S32x512x512
  bcast_S_S32x512x512 : S_.BroadcastsInDim S32x512x512 (![] : Fin 0 → Fin S32x512x512.rank)
  slices_S2x1x3x3_S1x1x1x1_0_0_0_1 : S2x1x3x3.Slices ![0, 0, 0, 1] S1x1x1x1
  slices_S32x514x514_S32x512x512_0_0_1 : S32x514x514.Slices ![0, 0, 1] S32x512x512
  slices_S2x1x3x3_S1x1x1x1_0_0_0_2 : S2x1x3x3.Slices ![0, 0, 0, 2] S1x1x1x1
  slices_S32x514x514_S32x512x512_0_0_2 : S32x514x514.Slices ![0, 0, 2] S32x512x512
  slices_S2x1x3x3_S1x1x1x1_0_0_1_0 : S2x1x3x3.Slices ![0, 0, 1, 0] S1x1x1x1
  slices_S32x514x514_S32x512x512_0_1_0 : S32x514x514.Slices ![0, 1, 0] S32x512x512
  slices_S2x1x3x3_S1x1x1x1_0_0_1_1 : S2x1x3x3.Slices ![0, 0, 1, 1] S1x1x1x1
  slices_S32x514x514_S32x512x512_0_1_1 : S32x514x514.Slices ![0, 1, 1] S32x512x512
  slices_S2x1x3x3_S1x1x1x1_0_0_1_2 : S2x1x3x3.Slices ![0, 0, 1, 2] S1x1x1x1
  slices_S32x514x514_S32x512x512_0_1_2 : S32x514x514.Slices ![0, 1, 2] S32x512x512
  slices_S2x1x3x3_S1x1x1x1_0_0_2_0 : S2x1x3x3.Slices ![0, 0, 2, 0] S1x1x1x1
  slices_S32x514x514_S32x512x512_0_2_0 : S32x514x514.Slices ![0, 2, 0] S32x512x512
  slices_S2x1x3x3_S1x1x1x1_0_0_2_1 : S2x1x3x3.Slices ![0, 0, 2, 1] S1x1x1x1
  slices_S32x514x514_S32x512x512_0_2_1 : S32x514x514.Slices ![0, 2, 1] S32x512x512
  slices_S2x1x3x3_S1x1x1x1_0_0_2_2 : S2x1x3x3.Slices ![0, 0, 2, 2] S1x1x1x1
  slices_S32x514x514_S32x512x512_0_2_2 : S32x514x514.Slices ![0, 2, 2] S32x512x512
  slices_S2x1x3x3_S1x1x1x1_1_0_0_0 : S2x1x3x3.Slices ![1, 0, 0, 0] S1x1x1x1
  slices_S2x1x3x3_S1x1x1x1_1_0_0_1 : S2x1x3x3.Slices ![1, 0, 0, 1] S1x1x1x1
  slices_S2x1x3x3_S1x1x1x1_1_0_0_2 : S2x1x3x3.Slices ![1, 0, 0, 2] S1x1x1x1
  slices_S2x1x3x3_S1x1x1x1_1_0_1_0 : S2x1x3x3.Slices ![1, 0, 1, 0] S1x1x1x1
  slices_S2x1x3x3_S1x1x1x1_1_0_1_1 : S2x1x3x3.Slices ![1, 0, 1, 1] S1x1x1x1
  slices_S2x1x3x3_S1x1x1x1_1_0_1_2 : S2x1x3x3.Slices ![1, 0, 1, 2] S1x1x1x1
  slices_S2x1x3x3_S1x1x1x1_1_0_2_0 : S2x1x3x3.Slices ![1, 0, 2, 0] S1x1x1x1
  slices_S2x1x3x3_S1x1x1x1_1_0_2_1 : S2x1x3x3.Slices ![1, 0, 2, 1] S1x1x1x1
  slices_S2x1x3x3_S1x1x1x1_1_0_2_2 : S2x1x3x3.Slices ![1, 0, 2, 2] S1x1x1x1
  shapeCasts_S32x512x512_S32x64x8x64x8 : S32x512x512.ShapeCasts S32x64x8x64x8
  reducesTo_S32x64x8x64x8_S32x64x64_d2_4 : S32x64x8x64x8.ReducesTo [2, 4] S32x64x64
  bcast_S32x64x64_S32x1x64x64_0_2_3 : S32x64x64.BroadcastsInDim S32x1x64x64 (![0, 2, 3] : Fin 3 → Fin S32x1x64x64.rank)
  bcast_S32x1x64x64_S32x10x64x64_0_1_2_3 : S32x1x64x64.BroadcastsInDim S32x10x64x64 (![0, 1, 2, 3] : Fin 4 → Fin S32x10x64x64.rank)

variable [Facts]

def fn_pad {F : FTy → Type} [FloatOps F] (arg0 : FVec F S32x512x512 .f32) (arg1 : IVec S_ 32) : FVec F S32x514x514 .f32 :=
  let v0 : FVec F S_ .f32 := sitofp .f32 arg1
  let v1 : FVec F S32x514x514 .f32 := (fun x v => pad S32x514x514 ![0, 1, 1] ![0, 1, 1] ![0, 0, 0] x v pads_S32x512x512_S32x514x514_000_110_110 h_S_) arg0 v0
  v1

def fn_part6 {F : FTy → Type} [FloatOps F] (main_v135 : IVec S32x1x64x64 1) : IVec S32x10x64x64 1 :=
  let main_v136 : IVec S32x10x64x64 1 := broadcastInDim S32x10x64x64 ![0, 1, 2, 3] bcast_S32x1x64x64_S32x10x64x64_0_1_2_3 main_v135
  main_v136

def fn_part5 {F : FTy → Type} [FloatOps F] (main_v114 : FVec F S32x512x512 .f32) (main_v115 : FVec F S32x512x512 .f32) (main_v116 : FVec F S32x512x512 .f32) : IVec S32x10x64x64 1 :=
  let main_v117 : FVec F S32x512x512 .f32 := minimumf main_v115 main_v116
  let main_cst_1 : FVec F S_ .f32 := constant S_ .f32 0x3EA65BC8#32
  let main_v118 : FVec F S32x512x512 .f32 := broadcastInDim S32x512x512 ![] bcast_S_S32x512x512 main_cst_1
  let main_v119 : FVec F S32x512x512 .f32 := mulf main_v118 main_v114
  let main_v120 : IVec S32x512x512 1 := cmpf .ole main_v117 main_v119
  let main_cst_2 : FVec F S_ .f32 := constant S_ .f32 0x3EA65BEA#32
  let main_v121 : FVec F S32x512x512 .f32 := broadcastInDim S32x512x512 ![] bcast_S_S32x512x512 main_cst_2
  let main_v122 : FVec F S32x512x512 .f32 := mulf main_v121 main_v114
  let main_v123 : IVec S32x512x512 1 := cmpf .oge main_v117 main_v122
  let main_v124 : IVec S32x512x512 1 := ori main_v120 main_v123
  let main_cst_3 : FVec F S_ .f32 := constant S_ .f32 0x3F39FEA8#32
  let main_v125 : FVec F S32x512x512 .f32 := broadcastInDim S32x512x512 ![] bcast_S_S32x512x512 main_cst_3
  let main_v126 : FVec F S32x512x512 .f32 := mulf main_v125 main_v114
  let main_v127 : IVec S32x512x512 1 := cmpf .ole main_v117 main_v126
  let main_cst_4 : FVec F S_ .f32 := constant S_ .f32 0x3F39FEB9#32
  let main_v128 : FVec F S32x512x512 .f32 := broadcastInDim S32x512x512 ![] bcast_S_S32x512x512 main_cst_4
  let main_v129 : FVec F S32x512x512 .f32 := mulf main_v128 main_v114
  let main_v130 : IVec S32x512x512 1 := cmpf .oge main_v117 main_v129
  let main_v131 : IVec S32x512x512 1 := ori main_v127 main_v130
  let main_v132 : IVec S32x512x512 1 := andi main_v124 main_v131
  let main_v133 : IVec S32x64x8x64x8 1 := shapeCast S32x64x8x64x8 main_v132 shapeCasts_S32x512x512_S32x64x8x64x8
  let main_c_5 : IVec S_ 1 := constantI S_ 1 1#1
  let main_v134 : IVec S32x64x64 1 := (fun x v => Host.reduce IntOp.andi x v reducesTo_S32x64x8x64x8_S32x64x64_d2_4 h_S_) main_v133 main_c_5
  let main_v135 : IVec S32x1x64x64 1 := broadcastInDim S32x1x64x64 ![0, 2, 3] bcast_S32x64x64_S32x1x64x64_0_2_3 main_v134
  fn_part6 (F := F) main_v135

def fn_part4 {F : FTy → Type} [FloatOps F] (main_arg1 : FVec F S2x1x3x3 .f32) (main_v1 : FVec F S32x514x514 .f32) (main_v56 : FVec F S32x512x512 .f32) (main_v87 : FVec F S32x512x512 .f32) (main_v92 : FVec F S32x512x512 .f32) : IVec S32x10x64x64 1 :=
  let main_v93 : FVec F S32x512x512 .f32 := addf main_v87 main_v92
  let main_v94 : FVec F S1x1x1x1 .f32 := (extractStridedSlice S1x1x1x1 ![1, 0, 2, 0] · slices_S2x1x3x3_S1x1x1x1_1_0_2_0) main_arg1
  let main_v95 : FVec F S_ .f32 := shapeCast S_ main_v94 shapeCasts_S1x1x1x1_S_
  let main_v96 : FVec F S32x512x512 .f32 := (extractStridedSlice S32x512x512 ![0, 2, 0] · slices_S32x514x514_S32x512x512_0_2_0) main_v1
  let main_v97 : FVec F S32x512x512 .f32 := broadcastInDim S32x512x512 ![] bcast_S_S32x512x512 main_v95
  let main_v98 : FVec F S32x512x512 .f32 := mulf main_v97 main_v96
  let main_v99 : FVec F S32x512x512 .f32 := addf main_v93 main_v98
  let main_v100 : FVec F S1x1x1x1 .f32 := (extractStridedSlice S1x1x1x1 ![1, 0, 2, 1] · slices_S2x1x3x3_S1x1x1x1_1_0_2_1) main_arg1
  let main_v101 : FVec F S_ .f32 := shapeCast S_ main_v100 shapeCasts_S1x1x1x1_S_
  let main_v102 : FVec F S32x512x512 .f32 := (extractStridedSlice S32x512x512 ![0, 2, 1] · slices_S32x514x514_S32x512x512_0_2_1) main_v1
  let main_v103 : FVec F S32x512x512 .f32 := broadcastInDim S32x512x512 ![] bcast_S_S32x512x512 main_v101
  let main_v104 : FVec F S32x512x512 .f32 := mulf main_v103 main_v102
  let main_v105 : FVec F S32x512x512 .f32 := addf main_v99 main_v104
  let main_v106 : FVec F S1x1x1x1 .f32 := (extractStridedSlice S1x1x1x1 ![1, 0, 2, 2] · slices_S2x1x3x3_S1x1x1x1_1_0_2_2) main_arg1
  let main_v107 : FVec F S_ .f32 := shapeCast S_ main_v106 shapeCasts_S1x1x1x1_S_
  let main_v108 : FVec F S32x512x512 .f32 := (extractStridedSlice S32x512x512 ![0, 2, 2] · slices_S32x514x514_S32x512x512_0_2_2) main_v1
  let main_v109 : FVec F S32x512x512 .f32 := broadcastInDim S32x512x512 ![] bcast_S_S32x512x512 main_v107
  let main_v110 : FVec F S32x512x512 .f32 := mulf main_v109 main_v108
  let main_v111 : FVec F S32x512x512 .f32 := addf main_v105 main_v110
  let main_v112 : FVec F S32x512x512 .f32 := Host.absf main_v56
  let main_v113 : FVec F S32x512x512 .f32 := Host.absf main_v111
  let main_v114 : FVec F S32x512x512 .f32 := maximumf main_v112 main_v113
  let main_v115 : FVec F S32x512x512 .f32 := Host.absf main_v56
  let main_v116 : FVec F S32x512x512 .f32 := Host.absf main_v111
  fn_part5 (F := F) main_v114 main_v115 main_v116

def fn_part3 {F : FTy → Type} [FloatOps F] (main_arg1 : FVec F S2x1x3x3 .f32) (main_v1 : FVec F S32x514x514 .f32) (main_v56 : FVec F S32x512x512 .f32) (main_v63 : FVec F S32x512x512 .f32) (main_v68 : FVec F S32x512x512 .f32) : IVec S32x10x64x64 1 :=
  let main_v69 : FVec F S32x512x512 .f32 := addf main_v63 main_v68
  let main_v70 : FVec F S1x1x1x1 .f32 := (extractStridedSlice S1x1x1x1 ![1, 0, 0, 2] · slices_S2x1x3x3_S1x1x1x1_1_0_0_2) main_arg1
  let main_v71 : FVec F S_ .f32 := shapeCast S_ main_v70 shapeCasts_S1x1x1x1_S_
  let main_v72 : FVec F S32x512x512 .f32 := (extractStridedSlice S32x512x512 ![0, 0, 2] · slices_S32x514x514_S32x512x512_0_0_2) main_v1
  let main_v73 : FVec F S32x512x512 .f32 := broadcastInDim S32x512x512 ![] bcast_S_S32x512x512 main_v71
  let main_v74 : FVec F S32x512x512 .f32 := mulf main_v73 main_v72
  let main_v75 : FVec F S32x512x512 .f32 := addf main_v69 main_v74
  let main_v76 : FVec F S1x1x1x1 .f32 := (extractStridedSlice S1x1x1x1 ![1, 0, 1, 0] · slices_S2x1x3x3_S1x1x1x1_1_0_1_0) main_arg1
  let main_v77 : FVec F S_ .f32 := shapeCast S_ main_v76 shapeCasts_S1x1x1x1_S_
  let main_v78 : FVec F S32x512x512 .f32 := (extractStridedSlice S32x512x512 ![0, 1, 0] · slices_S32x514x514_S32x512x512_0_1_0) main_v1
  let main_v79 : FVec F S32x512x512 .f32 := broadcastInDim S32x512x512 ![] bcast_S_S32x512x512 main_v77
  let main_v80 : FVec F S32x512x512 .f32 := mulf main_v79 main_v78
  let main_v81 : FVec F S32x512x512 .f32 := addf main_v75 main_v80
  let main_v82 : FVec F S1x1x1x1 .f32 := (extractStridedSlice S1x1x1x1 ![1, 0, 1, 1] · slices_S2x1x3x3_S1x1x1x1_1_0_1_1) main_arg1
  let main_v83 : FVec F S_ .f32 := shapeCast S_ main_v82 shapeCasts_S1x1x1x1_S_
  let main_v84 : FVec F S32x512x512 .f32 := (extractStridedSlice S32x512x512 ![0, 1, 1] · slices_S32x514x514_S32x512x512_0_1_1) main_v1
  let main_v85 : FVec F S32x512x512 .f32 := broadcastInDim S32x512x512 ![] bcast_S_S32x512x512 main_v83
  let main_v86 : FVec F S32x512x512 .f32 := mulf main_v85 main_v84
  let main_v87 : FVec F S32x512x512 .f32 := addf main_v81 main_v86
  let main_v88 : FVec F S1x1x1x1 .f32 := (extractStridedSlice S1x1x1x1 ![1, 0, 1, 2] · slices_S2x1x3x3_S1x1x1x1_1_0_1_2) main_arg1
  let main_v89 : FVec F S_ .f32 := shapeCast S_ main_v88 shapeCasts_S1x1x1x1_S_
  let main_v90 : FVec F S32x512x512 .f32 := (extractStridedSlice S32x512x512 ![0, 1, 2] · slices_S32x514x514_S32x512x512_0_1_2) main_v1
  let main_v91 : FVec F S32x512x512 .f32 := broadcastInDim S32x512x512 ![] bcast_S_S32x512x512 main_v89
  let main_v92 : FVec F S32x512x512 .f32 := mulf main_v91 main_v90
  fn_part4 (F := F) main_arg1 main_v1 main_v56 main_v87 main_v92

def fn_part2 {F : FTy → Type} [FloatOps F] (main_arg1 : FVec F S2x1x3x3 .f32) (main_v1 : FVec F S32x514x514 .f32) (main_v44 : FVec F S32x512x512 .f32) (main_v45 : FVec F S1x1x1x1 .f32) : IVec S32x10x64x64 1 :=
  let main_v46 : FVec F S_ .f32 := shapeCast S_ main_v45 shapeCasts_S1x1x1x1_S_
  let main_v47 : FVec F S32x512x512 .f32 := (extractStridedSlice S32x512x512 ![0, 2, 1] · slices_S32x514x514_S32x512x512_0_2_1) main_v1
  let main_v48 : FVec F S32x512x512 .f32 := broadcastInDim S32x512x512 ![] bcast_S_S32x512x512 main_v46
  let main_v49 : FVec F S32x512x512 .f32 := mulf main_v48 main_v47
  let main_v50 : FVec F S32x512x512 .f32 := addf main_v44 main_v49
  let main_v51 : FVec F S1x1x1x1 .f32 := (extractStridedSlice S1x1x1x1 ![0, 0, 2, 2] · slices_S2x1x3x3_S1x1x1x1_0_0_2_2) main_arg1
  let main_v52 : FVec F S_ .f32 := shapeCast S_ main_v51 shapeCasts_S1x1x1x1_S_
  let main_v53 : FVec F S32x512x512 .f32 := (extractStridedSlice S32x512x512 ![0, 2, 2] · slices_S32x514x514_S32x512x512_0_2_2) main_v1
  let main_v54 : FVec F S32x512x512 .f32 := broadcastInDim S32x512x512 ![] bcast_S_S32x512x512 main_v52
  let main_v55 : FVec F S32x512x512 .f32 := mulf main_v54 main_v53
  let main_v56 : FVec F S32x512x512 .f32 := addf main_v50 main_v55
  let main_v57 : FVec F S1x1x1x1 .f32 := (extractStridedSlice S1x1x1x1 ![1, 0, 0, 0] · slices_S2x1x3x3_S1x1x1x1_1_0_0_0) main_arg1
  let main_v58 : FVec F S_ .f32 := shapeCast S_ main_v57 shapeCasts_S1x1x1x1_S_
  let main_v59 : FVec F S32x512x512 .f32 := (extractStridedSlice S32x512x512 ![0, 0, 0] · slices_S32x514x514_S32x512x512_0_0_0) main_v1
  let main_v60 : FVec F S32x512x512 .f32 := broadcastInDim S32x512x512 ![] bcast_S_S32x512x512 main_v58
  let main_v61 : FVec F S32x512x512 .f32 := mulf main_v60 main_v59
  let main_cst_0 : FVec F S_ .f32 := constant S_ .f32 0x00000000#32
  let main_v62 : FVec F S32x512x512 .f32 := broadcastInDim S32x512x512 ![] bcast_S_S32x512x512 main_cst_0
  let main_v63 : FVec F S32x512x512 .f32 := addf main_v62 main_v61
  let main_v64 : FVec F S1x1x1x1 .f32 := (extractStridedSlice S1x1x1x1 ![1, 0, 0, 1] · slices_S2x1x3x3_S1x1x1x1_1_0_0_1) main_arg1
  let main_v65 : FVec F S_ .f32 := shapeCast S_ main_v64 shapeCasts_S1x1x1x1_S_
  let main_v66 : FVec F S32x512x512 .f32 := (extractStridedSlice S32x512x512 ![0, 0, 1] · slices_S32x514x514_S32x512x512_0_0_1) main_v1
  let main_v67 : FVec F S32x512x512 .f32 := broadcastInDim S32x512x512 ![] bcast_S_S32x512x512 main_v65
  let main_v68 : FVec F S32x512x512 .f32 := mulf main_v67 main_v66
  fn_part3 (F := F) main_arg1 main_v1 main_v56 main_v63 main_v68

def fn_part1 {F : FTy → Type} [FloatOps F] (main_arg1 : FVec F S2x1x3x3 .f32) (main_v1 : FVec F S32x514x514 .f32) (main_v20 : FVec F S32x512x512 .f32) (main_v21 : FVec F S1x1x1x1 .f32) : IVec S32x10x64x64 1 :=
  let main_v22 : FVec F S_ .f32 := shapeCast S_ main_v21 shapeCasts_S1x1x1x1_S_
  let main_v23 : FVec F S32x512x512 .f32 := (extractStridedSlice S32x512x512 ![0, 1, 0] · slices_S32x514x514_S32x512x512_0_1_0) main_v1
  let main_v24 : FVec F S32x512x512 .f32 := broadcastInDim S32x512x512 ![] bcast_S_S32x512x512 main_v22
  let main_v25 : FVec F S32x512x512 .f32 := mulf main_v24 main_v23
  let main_v26 : FVec F S32x512x512 .f32 := addf main_v20 main_v25
  let main_v27 : FVec F S1x1x1x1 .f32 := (extractStridedSlice S1x1x1x1 ![0, 0, 1, 1] · slices_S2x1x3x3_S1x1x1x1_0_0_1_1) main_arg1
  let main_v28 : FVec F S_ .f32 := shapeCast S_ main_v27 shapeCasts_S1x1x1x1_S_
  let main_v29 : FVec F S32x512x512 .f32 := (extractStridedSlice S32x512x512 ![0, 1, 1] · slices_S32x514x514_S32x512x512_0_1_1) main_v1
  let main_v30 : FVec F S32x512x512 .f32 := broadcastInDim S32x512x512 ![] bcast_S_S32x512x512 main_v28
  let main_v31 : FVec F S32x512x512 .f32 := mulf main_v30 main_v29
  let main_v32 : FVec F S32x512x512 .f32 := addf main_v26 main_v31
  let main_v33 : FVec F S1x1x1x1 .f32 := (extractStridedSlice S1x1x1x1 ![0, 0, 1, 2] · slices_S2x1x3x3_S1x1x1x1_0_0_1_2) main_arg1
  let main_v34 : FVec F S_ .f32 := shapeCast S_ main_v33 shapeCasts_S1x1x1x1_S_
  let main_v35 : FVec F S32x512x512 .f32 := (extractStridedSlice S32x512x512 ![0, 1, 2] · slices_S32x514x514_S32x512x512_0_1_2) main_v1
  let main_v36 : FVec F S32x512x512 .f32 := broadcastInDim S32x512x512 ![] bcast_S_S32x512x512 main_v34
  let main_v37 : FVec F S32x512x512 .f32 := mulf main_v36 main_v35
  let main_v38 : FVec F S32x512x512 .f32 := addf main_v32 main_v37
  let main_v39 : FVec F S1x1x1x1 .f32 := (extractStridedSlice S1x1x1x1 ![0, 0, 2, 0] · slices_S2x1x3x3_S1x1x1x1_0_0_2_0) main_arg1
  let main_v40 : FVec F S_ .f32 := shapeCast S_ main_v39 shapeCasts_S1x1x1x1_S_
  let main_v41 : FVec F S32x512x512 .f32 := (extractStridedSlice S32x512x512 ![0, 2, 0] · slices_S32x514x514_S32x512x512_0_2_0) main_v1
  let main_v42 : FVec F S32x512x512 .f32 := broadcastInDim S32x512x512 ![] bcast_S_S32x512x512 main_v40
  let main_v43 : FVec F S32x512x512 .f32 := mulf main_v42 main_v41
  let main_v44 : FVec F S32x512x512 .f32 := addf main_v38 main_v43
  let main_v45 : FVec F S1x1x1x1 .f32 := (extractStridedSlice S1x1x1x1 ![0, 0, 2, 1] · slices_S2x1x3x3_S1x1x1x1_0_0_2_1) main_arg1
  fn_part2 (F := F) main_arg1 main_v1 main_v44 main_v45

def fn {F : FTy → Type} [FloatOps F] (main_arg0 : FVec F S32x1x512x512 .f32) (main_arg1 : FVec F S2x1x3x3 .f32) : IVec S32x10x64x64 1 :=
  let main_v0 : FVec F S32x512x512 .f32 := shapeCast S32x512x512 main_arg0 shapeCasts_S32x1x512x512_S32x512x512
  let main_c : IVec S_ 32 := constantI S_ 32 0#32
  let main_v1 : FVec F S32x514x514 .f32 := fn_pad (F := F) main_v0 main_c
  let main_v2 : FVec F S1x1x1x1 .f32 := (extractStridedSlice S1x1x1x1 ![0, 0, 0, 0] · slices_S2x1x3x3_S1x1x1x1_0_0_0_0) main_arg1
  let main_v3 : FVec F S_ .f32 := shapeCast S_ main_v2 shapeCasts_S1x1x1x1_S_
  let main_v4 : FVec F S32x512x512 .f32 := (extractStridedSlice S32x512x512 ![0, 0, 0] · slices_S32x514x514_S32x512x512_0_0_0) main_v1
  let main_v5 : FVec F S32x512x512 .f32 := broadcastInDim S32x512x512 ![] bcast_S_S32x512x512 main_v3
  let main_v6 : FVec F S32x512x512 .f32 := mulf main_v5 main_v4
  let main_cst : FVec F S_ .f32 := constant S_ .f32 0x00000000#32
  let main_v7 : FVec F S32x512x512 .f32 := broadcastInDim S32x512x512 ![] bcast_S_S32x512x512 main_cst
  let main_v8 : FVec F S32x512x512 .f32 := addf main_v7 main_v6
  let main_v9 : FVec F S1x1x1x1 .f32 := (extractStridedSlice S1x1x1x1 ![0, 0, 0, 1] · slices_S2x1x3x3_S1x1x1x1_0_0_0_1) main_arg1
  let main_v10 : FVec F S_ .f32 := shapeCast S_ main_v9 shapeCasts_S1x1x1x1_S_
  let main_v11 : FVec F S32x512x512 .f32 := (extractStridedSlice S32x512x512 ![0, 0, 1] · slices_S32x514x514_S32x512x512_0_0_1) main_v1
  let main_v12 : FVec F S32x512x512 .f32 := broadcastInDim S32x512x512 ![] bcast_S_S32x512x512 main_v10
  let main_v13 : FVec F S32x512x512 .f32 := mulf main_v12 main_v11
  let main_v14 : FVec F S32x512x512 .f32 := addf main_v8 main_v13
  let main_v15 : FVec F S1x1x1x1 .f32 := (extractStridedSlice S1x1x1x1 ![0, 0, 0, 2] · slices_S2x1x3x3_S1x1x1x1_0_0_0_2) main_arg1
  let main_v16 : FVec F S_ .f32 := shapeCast S_ main_v15 shapeCasts_S1x1x1x1_S_
  let main_v17 : FVec F S32x512x512 .f32 := (extractStridedSlice S32x512x512 ![0, 0, 2] · slices_S32x514x514_S32x512x512_0_0_2) main_v1
  let main_v18 : FVec F S32x512x512 .f32 := broadcastInDim S32x512x512 ![] bcast_S_S32x512x512 main_v16
  let main_v19 : FVec F S32x512x512 .f32 := mulf main_v18 main_v17
  let main_v20 : FVec F S32x512x512 .f32 := addf main_v14 main_v19
  let main_v21 : FVec F S1x1x1x1 .f32 := (extractStridedSlice S1x1x1x1 ![0, 0, 1, 0] · slices_S2x1x3x3_S1x1x1x1_0_0_1_0) main_arg1
  fn_part1 (F := F) main_arg1 main_v1 main_v20 main_v21
-- ==== Pre_finite_image_sobel_weight.lean ====
abbrev S32x1x512x512 : Shape := ⟨4, ![32, 1, 512, 512]⟩
abbrev S2x1x3x3 : Shape := ⟨4, ![2, 1, 3, 3]⟩
abbrev S3x3 : Shape := ⟨2, ![3, 3]⟩
abbrev S1x3x3 : Shape := ⟨3, ![1, 3, 3]⟩
abbrev S2x3x3 : Shape := ⟨3, ![2, 3, 3]⟩
abbrev S_ : Shape := ⟨0, ![]⟩

class Facts : Prop where
  transposes_S3x3_S3x3_1_0 : S3x3.Transposes [1, 0] S3x3
  bcast_S3x3_S1x3x3_1_2 : S3x3.BroadcastsInDim S1x3x3 (![1, 2] : Fin 2 → Fin S1x3x3.rank)
  concatenates_S1x3x3_S1x3x3_S2x3x3_d0 : Shape.Concatenates [S1x3x3, S1x3x3] S2x3x3 0
  bcast_S2x3x3_S2x1x3x3_0_2_3 : S2x3x3.BroadcastsInDim S2x1x3x3 (![0, 2, 3] : Fin 3 → Fin S2x1x3x3.rank)
  bcast_S_S32x1x512x512 : S_.BroadcastsInDim S32x1x512x512 (![] : Fin 0 → Fin S32x1x512x512.rank)

variable [Facts]

noncomputable abbrev lit0 : Fin 9 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32
  | _ => 0#32

def fn {F : FTy → Type} [FloatOps F] (main_arg0 : FVec F S32x1x512x512 .f32) (main_arg1 : FVec F S2x1x3x3 .f32) : IVec S32x1x512x512 1 × IVec S2x1x3x3 1 :=
  let main_cst : FVec F S3x3 .f32 := fun i => FloatOps.ofBits .f32 (lit0 (S3x3.rowMajor i))
  let main_v0 : FVec F S3x3 .f32 := (transpose S3x3 [1, 0] · transposes_S3x3_S3x3_1_0) main_cst
  let main_v1 : FVec F S1x3x3 .f32 := broadcastInDim S1x3x3 ![1, 2] bcast_S3x3_S1x3x3_1_2 main_cst
  let main_v2 : FVec F S1x3x3 .f32 := broadcastInDim S1x3x3 ![1, 2] bcast_S3x3_S1x3x3_1_2 main_v0
  let main_v3 : FVec F S2x3x3 .f32 := (fun a b => concatenate S2x3x3 0 [⟨S1x3x3, a⟩, ⟨S1x3x3, b⟩] concatenates_S1x3x3_S1x3x3_S2x3x3_d0) main_v1 main_v2
  let main_v4 : FVec F S2x1x3x3 .f32 := broadcastInDim S2x1x3x3 ![0, 2, 3] bcast_S2x3x3_S2x1x3x3_0_2_3 main_v3
  let main_v5 : FVec F S32x1x512x512 .f32 := Host.absf main_arg0
  let main_cst_0 : FVec F S_ .f32 := constant S_ .f32 0x7F800000#32
  let main_v6 : FVec F S32x1x512x512 .f32 := broadcastInDim S32x1x512x512 ![] bcast_S_S32x1x512x512 main_cst_0
  let main_v7 : IVec S32x1x512x512 1 := cmpf .olt main_v5 main_v6
  let main_v8 : IVec S2x1x3x3 1 := cmpf .oeq main_arg1 main_v4
  (main_v7, main_v8)
-- ==== Kernel.lean ====
abbrev S32x1x512x512 : Shape := ⟨4, ![32, 1, 512, 512]⟩
abbrev S2x1x3x3 : Shape := ⟨4, ![2, 1, 3, 3]⟩
abbrev S32x10x64x64 : Shape := ⟨4, ![32, 10, 64, 64]⟩
abbrev S4x1x512x512 : Shape := ⟨4, ![4, 1, 512, 512]⟩
abbrev S4x10x64x64 : Shape := ⟨4, ![4, 10, 64, 64]⟩
abbrev S2048x512 : Shape := ⟨2, ![2048, 512]⟩
abbrev S512x64 : Shape := ⟨2, ![512, 64]⟩
abbrev S2048x256 : Shape := ⟨2, ![2048, 256]⟩
abbrev S2048x64 : Shape := ⟨2, ![2048, 64]⟩
abbrev S256x64 : Shape := ⟨2, ![256, 64]⟩
abbrev S64x64 : Shape := ⟨2, ![64, 64]⟩
abbrev S1x1x64x64 : Shape := ⟨4, ![1, 1, 64, 64]⟩

abbrev nBuf : Space → Nat
  | .hbm => 3
  | .vmem => 4
  | .smem => 0
  | _ => 0

abbrev bufTy : (tb : Table) → Fin (tcTables nBuf tb) → BufTy
  | .hbm, ⟨0, _⟩ => ⟨S32x1x512x512, .f32⟩
  | .hbm, ⟨1, _⟩ => ⟨S2x1x3x3, .f32⟩
  | .hbm, ⟨2, _⟩ => ⟨S32x10x64x64, .f32⟩
  | .local _ .vmem, ⟨0, _⟩ => ⟨S4x1x512x512, .f32⟩
  | .local _ .vmem, ⟨1, _⟩ => ⟨S4x1x512x512, .f32⟩
  | .local _ .vmem, ⟨2, _⟩ => ⟨S4x10x64x64, .f32⟩
  | .local _ .vmem, ⟨3, _⟩ => ⟨S4x10x64x64, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x10x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1x512x512 : Shape := ⟨4, ![32, 1, 512, 512]⟩
abbrev S2x1x3x3 : Shape := ⟨4, ![2, 1, 3, 3]⟩
abbrev S32x512x512 : Shape := ⟨3, ![32, 512, 512]⟩
abbrev S_ : Shape := ⟨0, ![]⟩
abbrev S32x514x514 : Shape := ⟨3, ![32, 514, 514]⟩
abbrev S1x1x1x1 : Shape := ⟨4, ![1, 1, 1, 1]⟩
abbrev S32x2x512x512 : Shape := ⟨4, ![32, 2, 512, 512]⟩
abbrev S32 : Shape := ⟨1, ![32]⟩
abbrev S32x1x1 : Shape := ⟨3, ![32, 1, 1]⟩
abbrev S512 : Shape := ⟨1, ![512]⟩
abbrev S1x512x1 : Shape := ⟨3, ![1, 512, 1]⟩
abbrev S1x1x512 : Shape := ⟨3, ![1, 1, 512]⟩
abbrev S32x10x512x512 : Shape := ⟨4, ![32, 10, 512, 512]⟩
abbrev S32x512x512x1 : Shape := ⟨4, ![32, 512, 512, 1]⟩
abbrev S32x512x512x4 : Shape := ⟨4, ![32, 512, 512, 4]⟩
abbrev S32x10x64x8x64x8 : Shape := ⟨6, ![32, 10, 64, 8, 64, 8]⟩
abbrev S32x10x64x64 : Shape := ⟨4, ![32, 10, 64, 64]⟩

abbrev nBuf : Space → Nat
  | .hbm => 277
  | .vmem => 0
  | .smem => 0
  | _ => 0

abbrev hbmTy0_0 (i : Nat) : BufTy := match i % 128 with
  | 0 => ⟨S32x1x512x512, .f32⟩
  | 1 => ⟨S2x1x3x3, .f32⟩
  | 2 => ⟨S32x512x512, .f32⟩
  | 3 => ⟨S_, .i32⟩
  | 4 => ⟨S_, .f32⟩
  | 5 => ⟨S32x514x514, .f32⟩
  | 6 => ⟨S1x1x1x1, .f32⟩
  | 7 => ⟨S_, .f32⟩
  | 8 => ⟨S32x512x512, .f32⟩
  | 9 => ⟨S32x512x512, .f32⟩
  | 10 => ⟨S32x512x512, .f32⟩
  | 11 => ⟨S_, .f32⟩
  | 12 => ⟨S32x512x512, .f32⟩
  | 13 => ⟨S32x512x512, .f32⟩
  | 14 => ⟨S1x1x1x1, .f32⟩
  | 15 => ⟨S_, .f32⟩
  | 16 => ⟨S32x512x512, .f32⟩
  | 17 => ⟨S32x512x512, .f32⟩
  | 18 => ⟨S32x512x512, .f32⟩
  | 19 => ⟨S32x512x512, .f32⟩
  | 20 => ⟨S1x1x1x1, .f32⟩
  | 21 => ⟨S_, .f32⟩
  | 22 => ⟨S32x512x512, .f32⟩
  | 23 => ⟨S32x512x512, .f32⟩
  | 24 => ⟨S32x512x512, .f32⟩
  | 25 => ⟨S32x512x512, .f32⟩
  | 26 => ⟨S1x1x1x1, .f32⟩
  | 27 => ⟨S_, .f32⟩
  | 28 => ⟨S32x512x512, .f32⟩
  | 29 => ⟨S32x512x512, .f32⟩
  | 30 => ⟨S32x512x512, .f32⟩
  | 31 => ⟨S32x512x512, .f32⟩
  | 32 => ⟨S1x1x1x1, .f32⟩
  | 33 => ⟨S_, .f32⟩
  | 34 => ⟨S32x512x512, .f32⟩
  | 35 => ⟨S32x512x512, .f32⟩
  | 36 => ⟨S32x512x512, .f32⟩
  | 37 => ⟨S32x512x512, .f32⟩
  | 38 => ⟨S1x1x1x1, .f32⟩
  | 39 => ⟨S_, .f32⟩
  | 40 => ⟨S32x512x512, .f32⟩
  | 41 => ⟨S32x512x512, .f32⟩
  | 42 => ⟨S32x512x512, .f32⟩
  | 43 => ⟨S32x512x512, .f32⟩
  | 44 => ⟨S1x1x1x1, .f32⟩
  | 45 => ⟨S_, .f32⟩
  | 46 => ⟨S32x512x512, .f32⟩
  | 47 => ⟨S32x512x512, .f32⟩
  | 48 => ⟨S32x512x512, .f32⟩
  | 49 => ⟨S32x512x512, .f32⟩
  | 50 => ⟨S1x1x1x1, .f32⟩
  | 51 => ⟨S_, .f32⟩
  | 52 => ⟨S32x512x512, .f32⟩
  | 53 => ⟨S32x512x512, .f32⟩
  | 54 => ⟨S32x512x512, .f32⟩
  | 55 => ⟨S32x512x512, .f32⟩
  | 56 => ⟨S1x1x1x1, .f32⟩
  | 57 => ⟨S_, .f32⟩
  | 58 => ⟨S32x512x512, .f32⟩
  | 59 => ⟨S32x512x512, .f32⟩
  | 60 => ⟨S32x512x512, .f32⟩
  | 61 => ⟨S32x512x512, .f32⟩
  | 62 => ⟨S1x1x1x1, .f32⟩
  | 63 => ⟨S_, .f32⟩
  | 64 => ⟨S32x512x512, .f32⟩
  | 65 => ⟨S32x512x512, .f32⟩
  | 66 => ⟨S32x512x512, .f32⟩
  | 67 => ⟨S_, .f32⟩
  | 68 => ⟨S32x512x512, .f32⟩
  | 69 => ⟨S32x512x512, .f32⟩
  | 70 => ⟨S1x1x1x1, .f32⟩
  | 71 => ⟨S_, .f32⟩
  | 72 => ⟨S32x512x512, .f32⟩
  | 73 => ⟨S32x512x512, .f32⟩
  | 74 => ⟨S32x512x512, .f32⟩
  | 75 => ⟨S32x512x512, .f32⟩
  | 76 => ⟨S1x1x1x1, .f32⟩
  | 77 => ⟨S_, .f32⟩
  | 78 => ⟨S32x512x512, .f32⟩
  | 79 => ⟨S32x512x512, .f32⟩
  | 80 => ⟨S32x512x512, .f32⟩
  | 81 => ⟨S32x512x512, .f32⟩
  | 82 => ⟨S1x1x1x1, .f32⟩
  | 83 => ⟨S_, .f32⟩
  | 84 => ⟨S32x512x512, .f32⟩
  | 85 => ⟨S32x512x512, .f32⟩
  | 86 => ⟨S32x512x512, .f32⟩
  | 87 => ⟨S32x512x512, .f32⟩
  | 88 => ⟨S1x1x1x1, .f32⟩
  | 89 => ⟨S_, .f32⟩
  | 90 => ⟨S32x512x512, .f32⟩
  | 91 => ⟨S32x512x512, .f32⟩
  | 92 => ⟨S32x512x512, .f32⟩
  | 93 => ⟨S32x512x512, .f32⟩
  | 94 => ⟨S1x1x1x1, .f32⟩
  | 95 => ⟨S_, .f32⟩
  | 96 => ⟨S32x512x512, .f32⟩
  | 97 => ⟨S32x512x512, .f32⟩
  | 98 => ⟨S32x512x512, .f32⟩
  | 99 => ⟨S32x512x512, .f32⟩
  | 100 => ⟨S1x1x1x1, .f32⟩
  | 101 => ⟨S_, .f32⟩
  | 102 => ⟨S32x512x512, .f32⟩
  | 103 => ⟨S32x512x512, .f32⟩
  | 104 => ⟨S32x512x512, .f32⟩
  | 105 => ⟨S32x512x512, .f32⟩
  | 106 => ⟨S1x1x1x1, .f32⟩
  | 107 => ⟨S_, .f32⟩
  | 108 => ⟨S32x512x512, .f32⟩
  | 109 => ⟨S32x512x512, .f32⟩
  | 110 => ⟨S32x512x512, .f32⟩
  | 111 => ⟨S32x512x512, .f32⟩
  | 112 => ⟨S1x1x1x1, .f32⟩
  | 113 => ⟨S_, .f32⟩
  | 114 => ⟨S32x512x512, .f32⟩
  | 115 => ⟨S32x512x512, .f32⟩
  | 116 => ⟨S32x512x512, .f32⟩
  | 117 => ⟨S32x512x512, .f32⟩
  | 118 => ⟨S32x1x512x512, .f32⟩
  | 119 => ⟨S32x1x512x512, .f32⟩
  | 120 => ⟨S32x2x512x512, .f32⟩
  | 121 => ⟨S32x2x512x512, .f32⟩
  | 122 => ⟨S_, .f32⟩
  | 123 => ⟨S32x512x512, .f32⟩
  | 124 => ⟨S32x512x512, .f32⟩
  | 125 => ⟨S32x1x512x512, .f32⟩
  | 126 => ⟨S32x512x512, .f32⟩
  | 127 => ⟨S32x1x512x512, .f32⟩
  | _ => ⟨S32x1x512x512, .f32⟩

abbrev hbmTy0_1 (i : Nat) : BufTy := match i % 128 with
  | 0 => ⟨S32x512x512, .f32⟩
  | 1 => ⟨S32x512x512, .f32⟩
  | 2 => ⟨S_, .f32⟩
  | 3 => ⟨S_, .f32⟩
  | 4 => ⟨S_, .f32⟩
  | 5 => ⟨S32x512x512, .f32⟩
  | 6 => ⟨S32x512x512, .f32⟩
  | 7 => ⟨S_, .f32⟩
  | 8 => ⟨S32x512x512, .f32⟩
  | 9 => ⟨S32x512x512, .f32⟩
  | 10 => ⟨S32x512x512, .f32⟩
  | 11 => ⟨S32x512x512, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S32x512x512, .i32⟩
  | 19 => ⟨S32x512x512, .i32⟩
  | 20 => ⟨S_, .i32⟩
  | 21 => ⟨S32x512x512, .i32⟩
  | 22 => ⟨S32x512x512, .i1⟩
  | 23 => ⟨S_, .i32⟩
  | 24 => ⟨S32x512x512, .i32⟩
  | 25 => ⟨S32x512x512, .i1⟩
  | 26 => ⟨S_, .i32⟩
  | 27 => ⟨S_, .i1⟩
  | 28 => ⟨S32x512x512, .i1⟩
  | 29 => ⟨S32x512x512, .i1⟩
  | 30 => ⟨S32x512x512, .i1⟩
  | 31 => ⟨S32x512x512, .i32⟩
  | 32 => ⟨S32x512x512, .i32⟩
  | 33 => ⟨S32x512x512, .i32⟩
  | 34 => ⟨S32x512x512, .f32⟩
  | 35 => ⟨S32x512x512, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S32x512x512, .i32⟩
  | 43 => ⟨S32x512x512, .i32⟩
  | 44 => ⟨S_, .i32⟩
  | 45 => ⟨S32x512x512, .i32⟩
  | 46 => ⟨S32x512x512, .i1⟩
  | 47 => ⟨S_, .i32⟩
  | 48 => ⟨S32x512x512, .i32⟩
  | 49 => ⟨S32x512x512, .i1⟩
  | 50 => ⟨S_, .i32⟩
  | 51 => ⟨S_, .i1⟩
  | 52 => ⟨S32x512x512, .i1⟩
  | 53 => ⟨S32x512x512, .i1⟩
  | 54 => ⟨S32x512x512, .i1⟩
  | 55 => ⟨S32x512x512, .i32⟩
  | 56 => ⟨S32x512x512, .i32⟩
  | 57 => ⟨S32x512x512, .i32⟩
  | 58 => ⟨S32, .i32⟩
  | 59 => ⟨S32x1x1, .i32⟩
  | 60 => ⟨S512, .i32⟩
  | 61 => ⟨S1x512x1, .i32⟩
  | 62 => ⟨S512, .i32⟩
  | 63 => ⟨S1x1x512, .i32⟩
  | 64 => ⟨S_, .f32⟩
  | 65 => ⟨S32x10x512x512, .f32⟩
  | 66 => ⟨S_, .i32⟩
  | 67 => ⟨S32x1x1, .i32⟩
  | 68 => ⟨S32x1x1, .i1⟩
  | 69 => ⟨S_, .i32⟩
  | 70 => ⟨S32x1x1, .i32⟩
  | 71 => ⟨S32x1x1, .i32⟩
  | 72 => ⟨S32x1x1, .i32⟩
  | 73 => ⟨S_, .i32⟩
  | 74 => ⟨S32x512x512, .i32⟩
  | 75 => ⟨S32x512x512, .i1⟩
  | 76 => ⟨S_, .i32⟩
  | 77 => ⟨S32x512x512, .i32⟩
  | 78 => ⟨S32x512x512, .i32⟩
  | 79 => ⟨S32x512x512, .i32⟩
  | 80 => ⟨S_, .i32⟩
  | 81 => ⟨S1x512x1, .i32⟩
  | 82 => ⟨S1x512x1, .i1⟩
  | 83 => ⟨S_, .i32⟩
  | 84 => ⟨S1x512x1, .i32⟩
  | 85 => ⟨S1x512x1, .i32⟩
  | 86 => ⟨S1x512x1, .i32⟩
  | 87 => ⟨S_, .i32⟩
  | 88 => ⟨S1x1x512, .i32⟩
  | 89 => ⟨S1x1x512, .i1⟩
  | 90 => ⟨S_, .i32⟩
  | 91 => ⟨S1x1x512, .i32⟩
  | 92 => ⟨S1x1x512, .i32⟩
  | 93 => ⟨S1x1x512, .i32⟩
  | 94 => ⟨S32x512x512, .i32⟩
  | 95 => ⟨S32x512x512, .i32⟩
  | 96 => ⟨S32x512x512, .i32⟩
  | 97 => ⟨S32x512x512x1, .i32⟩
  | 98 => ⟨S32x512x512x1, .i32⟩
  | 99 => ⟨S32x512x512x1, .i32⟩
  | 100 => ⟨S32x512x512x1, .i32⟩
  | 101 => ⟨S32x512x512x4, .i32⟩
  | 102 => ⟨S32x10x512x512, .f32⟩
  | 103 => ⟨S_, .f32⟩
  | 104 => ⟨S32x512x512, .f32⟩
  | 105 => ⟨S32x512x512, .f32⟩
  | 106 => ⟨S_, .i32⟩
  | 107 => ⟨S32x1x1, .i32⟩
  | 108 => ⟨S32x1x1, .i1⟩
  | 109 => ⟨S_, .i32⟩
  | 110 => ⟨S32x1x1, .i32⟩
  | 111 => ⟨S32x1x1, .i32⟩
  | 112 => ⟨S32x1x1, .i32⟩
  | 113 => ⟨S_, .i32⟩
  | 114 => ⟨S32x512x512, .i32⟩
  | 115 => ⟨S32x512x512, .i1⟩
  | 116 => ⟨S_, .i32⟩
  | 117 => ⟨S32x512x512, .i32⟩
  | 118 => ⟨S32x512x512, .i32⟩
  | 119 => ⟨S32x512x512, .i32⟩
  | 120 => ⟨S_, .i32⟩
  | 121 => ⟨S1x512x1, .i32⟩
  | 122 => ⟨S1x512x1, .i1⟩
  | 123 => ⟨S_, .i32⟩
  | 124 => ⟨S1x512x1, .i32⟩
  | 125 => ⟨S1x512x1, .i32⟩
  | 126 => ⟨S1x512x1, .i32⟩
  | 127 => ⟨S_, .i32⟩
  | _ => ⟨S32x1x512x512, .f32⟩

abbrev hbmTy0_2 (i : Nat) : BufTy := match i % 128 with
  | 0 => ⟨S1x1x512, .i32⟩
  | 1 => ⟨S1x1x512, .i1⟩
  | 2 => ⟨S_, .i32⟩
  | 3 => ⟨S1x1x512, .i32⟩
  | 4 => ⟨S1x1x512, .i32⟩
  | 5 => ⟨S1x1x512, .i32⟩
  | 6 => ⟨S32x512x512, .i32⟩
  | 7 => ⟨S32x512x512, .i32⟩
  | 8 => ⟨S32x512x512, .i32⟩
  | 9 => ⟨S32x512x512x1, .i32⟩
  | 10 => ⟨S32x512x512x1, .i32⟩
  | 11 => ⟨S32x512x512x1, .i32⟩
  | 12 => ⟨S32x512x512x1, .i32⟩
  | 13 => ⟨S32x512x512x4, .i32⟩
  | 14 => ⟨S32x10x512x512, .f32⟩
  | 15 => ⟨S32x10x64x8x64x8, .f32⟩
  | 16 => ⟨S_, .f32⟩
  | 17 => ⟨S32x10x64x64, .f32⟩
  | 18 => ⟨S_, .f32⟩
  | 19 => ⟨S32x10x64x64, .f32⟩
  | 20 => ⟨S32x10x64x64, .f32⟩
  | _ => ⟨S32x1x512x512, .f32⟩

abbrev hbmTy (i : Nat) : BufTy := match i / 128 with
  | 0 => hbmTy0_0 i
  | 1 => hbmTy0_1 i
  | 2 => hbmTy0_2 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_cst_0 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_call1_v0 : Ref sig .tc := ⟨.hbm, 121, rfl⟩
abbrev main_call1_cst : Ref sig .tc := ⟨.hbm, 122, rfl⟩
abbrev main_call1_v1 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_cst_1 : Ref sig .tc := ⟨.hbm, 130, rfl⟩
abbrev main_cst_2 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_cst_3 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_c_4 : Ref sig .tc := ⟨.hbm, 140, rfl⟩
abbrev main_call2_v0 : Ref sig .tc := ⟨.hbm, 141, rfl⟩
abbrev main_call2_c : Ref sig .tc := ⟨.hbm, 142, rfl⟩
abbrev main_call2_v1 : Ref sig .tc := ⟨.hbm, 143, rfl⟩
abbrev main_call2_c_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_c_1 : Ref sig .tc := ⟨.hbm, 148, rfl⟩
abbrev main_call2_v5 : Ref sig .tc := ⟨.hbm, 149, rfl⟩
abbrev main_call2_v6 : Ref sig .tc := ⟨.hbm, 150, rfl⟩
abbrev main_call2_c_2 : Ref sig .tc := ⟨.hbm, 151, rfl⟩
abbrev main_call2_v7 : Ref sig .tc := ⟨.hbm, 152, rfl⟩
abbrev main_call2_v8 : Ref sig .tc := ⟨.hbm, 153, rfl⟩
abbrev main_call2_c_3 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_v12 : Ref sig .tc := ⟨.hbm, 158, rfl⟩
abbrev main_call2_v13 : Ref sig .tc := ⟨.hbm, 159, rfl⟩
abbrev main_call2_v14 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_5 : Ref sig .tc := ⟨.hbm, 164, rfl⟩
abbrev main_call3_v0 : Ref sig .tc := ⟨.hbm, 165, rfl⟩
abbrev main_call3_c : Ref sig .tc := ⟨.hbm, 166, rfl⟩
abbrev main_call3_v1 : Ref sig .tc := ⟨.hbm, 167, rfl⟩
abbrev main_call3_c_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_c_1 : Ref sig .tc := ⟨.hbm, 172, rfl⟩
abbrev main_call3_v5 : Ref sig .tc := ⟨.hbm, 173, rfl⟩
abbrev main_call3_v6 : Ref sig .tc := ⟨.hbm, 174, rfl⟩
abbrev main_call3_c_2 : Ref sig .tc := ⟨.hbm, 175, rfl⟩
abbrev main_call3_v7 : Ref sig .tc := ⟨.hbm, 176, rfl⟩
abbrev main_call3_v8 : Ref sig .tc := ⟨.hbm, 177, rfl⟩
abbrev main_call3_c_3 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_v12 : Ref sig .tc := ⟨.hbm, 182, rfl⟩
abbrev main_call3_v13 : Ref sig .tc := ⟨.hbm, 183, rfl⟩
abbrev main_call3_v14 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_6 : Ref sig .tc := ⟨.hbm, 192, rfl⟩
abbrev main_v138 : Ref sig .tc := ⟨.hbm, 193, rfl⟩
abbrev main_c_7 : Ref sig .tc := ⟨.hbm, 194, rfl⟩
abbrev main_v139 : Ref sig .tc := ⟨.hbm, 195, rfl⟩
abbrev main_v140 : Ref sig .tc := ⟨.hbm, 196, rfl⟩
abbrev main_c_8 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_9 : Ref sig .tc := ⟨.hbm, 201, rfl⟩
abbrev main_v144 : Ref sig .tc := ⟨.hbm, 202, rfl⟩
abbrev main_v145 : Ref sig .tc := ⟨.hbm, 203, rfl⟩
abbrev main_c_10 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_c_11 : Ref sig .tc := ⟨.hbm, 208, rfl⟩
abbrev main_v149 : Ref sig .tc := ⟨.hbm, 209, rfl⟩
abbrev main_v150 : Ref sig .tc := ⟨.hbm, 210, rfl⟩
abbrev main_c_12 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_c_13 : Ref sig .tc := ⟨.hbm, 215, rfl⟩
abbrev main_v154 : Ref sig .tc := ⟨.hbm, 216, rfl⟩
abbrev main_v155 : Ref sig .tc := ⟨.hbm, 217, rfl⟩
abbrev main_c_14 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_15 : Ref sig .tc := ⟨.hbm, 231, rfl⟩
abbrev main_v168 : Ref sig .tc := ⟨.hbm, 232, rfl⟩
abbrev main_v169 : Ref sig .tc := ⟨.hbm, 233, rfl⟩
abbrev main_c_16 : Ref sig .tc := ⟨.hbm, 234, rfl⟩
abbrev main_v170 : Ref sig .tc := ⟨.hbm, 235, rfl⟩
abbrev main_v171 : Ref sig .tc := ⟨.hbm, 236, rfl⟩
abbrev main_c_17 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_c_18 : Ref sig .tc := ⟨.hbm, 241, rfl⟩
abbrev main_v175 : Ref sig .tc := ⟨.hbm, 242, rfl⟩
abbrev main_v176 : Ref sig .tc := ⟨.hbm, 243, rfl⟩
abbrev main_c_19 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_c_20 : Ref sig .tc := ⟨.hbm, 248, rfl⟩
abbrev main_v180 : Ref sig .tc := ⟨.hbm, 249, rfl⟩
abbrev main_v181 : Ref sig .tc := ⟨.hbm, 250, rfl⟩
abbrev main_c_21 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_c_22 : Ref sig .tc := ⟨.hbm, 255, rfl⟩
abbrev main_v185 : Ref sig .tc := ⟨.hbm, 256, rfl⟩
abbrev main_v186 : Ref sig .tc := ⟨.hbm, 257, rfl⟩
abbrev main_c_23 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_24 : Ref sig .tc := ⟨.hbm, 272, rfl⟩
abbrev main_v200 : Ref sig .tc := ⟨.hbm, 273, rfl⟩
abbrev main_cst_25 : Ref sig .tc := ⟨.hbm, 274, rfl⟩
abbrev main_v201 : Ref sig .tc := ⟨.hbm, 275, rfl⟩
abbrev main_v202 : Ref sig .tc := ⟨.hbm, 276, rfl⟩

abbrev nD : Nat := 1
abbrev τ : Topo := Topo.v7x

variable {F : FTy → Type} [FloatOps F]
-- ==== Proof.Angle.lean ====
/- The angle of a gradient in units of a tenth of a half turn, and the odd polynomial that stands for it: away from two
   short intervals of the ratio of the gradient's components, both lie between the same two integers, or are the same integer. -/
module

public import Mathlib.Analysis.SpecialFunctions.Trigonometric.Arctan
public import Mathlib.Analysis.Calculus.Deriv.MeanValue
public import Mathlib.Analysis.Calculus.Deriv.Pow

@[expose] public section

noncomputable section

namespace Cert.Hog

/-- The odd polynomial of degree thirteen, in the order in which its terms are summed. -/
def poly (t : ℝ) : ℝ :=
  ((((((12367793 / 536870912 * (t * t) + -3726219 / 33554432) * (t * t) + 8660893 / 33554432) * (t * t) + -3554611 / 8388608) * (t * t)
    + 5294443 / 8388608) * (t * t) + -8896907 / 8388608) * (t * t) + 13350841 / 4194304) * t

/-- The polynomial increases from zero to one. -/
theorem poly_strictMonoOn : StrictMonoOn poly (Set.Icc 0 1) := by
  have hd : ∀ x : ℝ, HasDerivAt poly (13350841 / 4194304 - 3 * (8896907 / 8388608) * x ^ 2 + 5 * (5294443 / 8388608) * x ^ 4
      - 7 * (3554611 / 8388608) * x ^ 6 + 9 * (8660893 / 33554432) * x ^ 8 - 11 * (3726219 / 33554432) * x ^ 10
      + 13 * (12367793 / 536870912) * x ^ 12) x := by
    intro x
    have e : poly = fun t : ℝ => 13350841 / 4194304 * t ^ 1 + -8896907 / 8388608 * t ^ 3 + 5294443 / 8388608 * t ^ 5
        + -3554611 / 8388608 * t ^ 7 + 8660893 / 33554432 * t ^ 9 + -3726219 / 33554432 * t ^ 11 + 12367793 / 536870912 * t ^ 13 := by
      funext t; unfold poly; ring
    rw [e]
    have h := ((((((((hasDerivAt_pow 1 x).const_mul (13350841 / 4194304)).add ((hasDerivAt_pow 3 x).const_mul (-8896907 / 8388608))).add
      ((hasDerivAt_pow 5 x).const_mul (5294443 / 8388608))).add ((hasDerivAt_pow 7 x).const_mul (-3554611 / 8388608))).add
      ((hasDerivAt_pow 9 x).const_mul (8660893 / 33554432))).add ((hasDerivAt_pow 11 x).const_mul (-3726219 / 33554432))).add
      ((hasDerivAt_pow 13 x).const_mul (12367793 / 536870912)))
    refine h.congr_deriv ?_
    push_cast
    ring
  refine strictMonoOn_of_deriv_pos (convex_Icc 0 1) (fun x _ => (hd x).continuousAt.continuousWithinAt) fun x hx => ?_
  rw [interior_Icc] at hx
  obtain ⟨h0, h1⟩ := hx
  rw [(hd x).deriv]
  have hu : x ^ 2 ≤ 1 := by nlinarith
  have hu0 : 0 ≤ x ^ 2 := by positivity
  have e4 : x ^ 4 * x ^ 2 = x ^ 6 := by ring
  have e8 : x ^ 8 * x ^ 2 = x ^ 10 := by ring
  have p4 : 0 ≤ x ^ 4 * (1 - x ^ 2) := mul_nonneg (by positivity) (by linarith)
  have p8 : 0 ≤ x ^ 8 * (1 - x ^ 2) := mul_nonneg (by positivity) (by linarith)
  have q4 : 0 ≤ x ^ 4 := by positivity
  have q8 : 0 ≤ x ^ 8 := by positivity
  have q12 : 0 ≤ x ^ 12 := by positivity
  rw [mul_sub, mul_one, e4] at p4
  rw [mul_sub, mul_one, e8] at p8
  linarith

/-- At zero the polynomial is zero. -/
theorem poly_zero : poly 0 = 0 := by unfold poly; norm_num

/-- `a` and `b` are the same integer, or lie strictly between the same two successive integers. -/
def Cell (a b : ℝ) : Prop := ∃ k : ℤ, (a = k ∧ b = k) ∨ ((k : ℝ) < a ∧ a < k + 1 ∧ (k : ℝ) < b ∧ b < k + 1)

theorem Cell.sub {a b : ℝ} (h : Cell a b) (n : ℤ) : Cell (n - a) (n - b) := by
  obtain ⟨k, ⟨ha, hb⟩ | ⟨h1, h2, h3, h4⟩⟩ := h
  · exact ⟨n - k, Or.inl ⟨by rw [ha]; push_cast; ring, by rw [hb]; push_cast; ring⟩⟩
  · refine ⟨n - k - 1, Or.inr ?_⟩
    push_cast
    refine ⟨?_, ?_, ?_, ?_⟩ <;> linarith

/-- Two numbers of one cell have one floor, -/
theorem Cell.floor_eq {a b : ℝ} (h : Cell a b) : ⌊a⌋ = ⌊b⌋ := by
  obtain ⟨k, ⟨ha, hb⟩ | ⟨h1, h2, h3, h4⟩⟩ := h
  · rw [ha, hb]
  · rw [Int.floor_eq_iff.2 ⟨h1.le, h2⟩, Int.floor_eq_iff.2 ⟨h3.le, h4⟩]

/-- and one is its floor exactly when the other is. -/
theorem Cell.isInt {a b : ℝ} (h : Cell a b) : ((⌊a⌋ : ℝ) = a ↔ (⌊b⌋ : ℝ) = b) := by
  obtain ⟨k, ⟨ha, hb⟩ | ⟨h1, h2, h3, h4⟩⟩ := h
  · rw [ha, hb]
  · rw [Int.floor_eq_iff.2 ⟨h1.le, h2⟩, Int.floor_eq_iff.2 ⟨h3.le, h4⟩]
    constructor <;> intro e <;> linarith

theorem sqrt5_bounds : (2.2360679774 : ℝ) < √5 ∧ √5 < 2.2360679776 := by
  constructor
  · rw [Real.lt_sqrt (by norm_num)]; norm_num
  · rw [Real.sqrt_lt' (by norm_num)]; norm_num

/-- The arctangent is below an angle of the first quadrant where its squared cosine exceeds the angle's. -/
theorem arctan_lt_of_cos {t c : ℝ} (hc : 0 ≤ c) (hc2 : c < Real.pi / 2) (ht : 0 ≤ t) (h : Real.cos c ^ 2 < 1 / (1 + t ^ 2)) :
    Real.arctan t < c := by
  by_contra hn
  have hn := not_lt.1 hn
  have hle : Real.cos (Real.arctan t) ≤ Real.cos c :=
    Real.strictAntiOn_cos.antitoneOn ⟨hc, by linarith [Real.pi_pos]⟩
      ⟨Real.arctan_nonneg.2 ht, by linarith [Real.arctan_lt_pi_div_two t, Real.pi_pos]⟩ hn
  have := Real.cos_sq_arctan t
  have hp := Real.cos_arctan_pos t
  nlinarith

/-- It is above one where its squared cosine is below the angle's. -/
theorem lt_arctan_of_cos {t c : ℝ} (hc : 0 ≤ c) (hc2 : c < Real.pi / 2) (ht : 0 ≤ t) (h : 1 / (1 + t ^ 2) < Real.cos c ^ 2) :
    c < Real.arctan t := by
  by_contra hn
  have hn := not_lt.1 hn
  have hle : Real.cos c ≤ Real.cos (Real.arctan t) :=
    Real.strictAntiOn_cos.antitoneOn ⟨Real.arctan_nonneg.2 ht, by linarith [Real.arctan_lt_pi_div_two t, Real.pi_pos]⟩
      ⟨hc, by linarith [Real.pi_pos]⟩ hn
  have := Real.cos_sq_arctan t
  have hp : 0 < Real.cos c := Real.cos_pos_of_mem_Ioo ⟨by linarith [Real.pi_pos], hc2⟩
  nlinarith

/-- The squared cosine of eighteen degrees, -/
theorem cos_sq_pi_div_ten : Real.cos (Real.pi / 10) ^ 2 = (5 + √5) / 8 := by
  have h := Real.cos_sq (Real.pi / 10)
  rw [show 2 * (Real.pi / 10) = Real.pi / 5 by ring, Real.cos_pi_div_five] at h
  rw [h]; ring

/-- and of thirty-six. -/
theorem cos_sq_pi_div_five : Real.cos (Real.pi / 5) ^ 2 = (3 + √5) / 8 := by
  rw [Real.cos_pi_div_five]
  have : √5 ^ 2 = 5 := Real.sq_sqrt (by norm_num)
  nlinarith

/-- The ratio `t` of the smaller component to the larger is off the two intervals in which polynomial and angle may
    lie on different sides of an integer. -/
def ClearRatio (t : ℝ) : Prop :=
  (t ≤ 1362809 / 4194304 ∨ 5451253 / 16777216 ≤ t) ∧ (t ≤ 1523669 / 2097152 ∨ 12189369 / 16777216 ≤ t)

/-- The angle of ratio `t`, in tenths of a half turn. -/
def base (t : ℝ) : ℝ := Real.arctan t / Real.pi * 10

theorem base_lt_iff {t c : ℝ} : base t < c ↔ Real.arctan t < c * Real.pi / 10 := by
  unfold base
  have := Real.pi_pos
  rw [div_mul_eq_mul_div, div_lt_iff₀ this, lt_div_iff₀ (by norm_num : (0:ℝ) < 10)]

theorem lt_base_iff {t c : ℝ} : c < base t ↔ c * Real.pi / 10 < Real.arctan t := by
  unfold base
  have := Real.pi_pos
  rw [div_mul_eq_mul_div, lt_div_iff₀ this, div_lt_iff₀ (by norm_num : (0:ℝ) < 10)]

/-- At a clear ratio the polynomial and the angle share a cell. -/
theorem cell_base {t : ℝ} (h0 : 0 ≤ t) (h1 : t ≤ 1) (hc : ClearRatio t) : Cell (poly t) (base t) := by
  have hpi := Real.pi_pos
  obtain ⟨s1, s2⟩ := sqrt5_bounds
  have mono := poly_strictMonoOn.monotoneOn
  have I : t ∈ Set.Icc (0:ℝ) 1 := ⟨h0, h1⟩
  rcases h0.eq_or_lt with rfl | hpos
  · exact ⟨0, Or.inl ⟨by rw [poly_zero]; norm_num, by unfold base; simp⟩⟩
  have lt1 : t ≤ 1362809 / 4194304 → base t < 1 := fun h => by
    rw [base_lt_iff, one_mul]
    refine arctan_lt_of_cos (by positivity) (by linarith) h0 ?_
    rw [cos_sq_pi_div_ten, lt_div_iff₀ (by positivity)]
    have : t ^ 2 ≤ (1362809 / 4194304) ^ 2 := by gcongr
    nlinarith
  have gt1 : 5451253 / 16777216 ≤ t → 1 < base t := fun h => by
    rw [lt_base_iff, one_mul]
    refine lt_arctan_of_cos (by positivity) (by linarith) h0 ?_
    rw [cos_sq_pi_div_ten, div_lt_iff₀ (by positivity)]
    have : (5451253 / 16777216) ^ 2 ≤ t ^ 2 := by gcongr
    nlinarith
  have lt2 : t ≤ 1523669 / 2097152 → base t < 2 := fun h => by
    rw [base_lt_iff, show 2 * Real.pi / 10 = Real.pi / 5 by ring]
    refine arctan_lt_of_cos (by positivity) (by linarith) h0 ?_
    rw [cos_sq_pi_div_five, lt_div_iff₀ (by positivity)]
    have : t ^ 2 ≤ (1523669 / 2097152) ^ 2 := by gcongr
    nlinarith
  have gt2 : 12189369 / 16777216 ≤ t → 2 < base t := fun h => by
    rw [lt_base_iff, show 2 * Real.pi / 10 = Real.pi / 5 by ring]
    refine lt_arctan_of_cos (by positivity) (by linarith) h0 ?_
    rw [cos_sq_pi_div_five, div_lt_iff₀ (by positivity)]
    have : (12189369 / 16777216) ^ 2 ≤ t ^ 2 := by gcongr
    nlinarith
  have lt3 : base t < 3 := by
    rw [base_lt_iff]
    have : Real.arctan t ≤ Real.arctan 1 := Real.arctan_strictMono.monotone h1
    rw [Real.arctan_one] at this
    linarith
  have gt0 : 0 < base t := by
    rw [lt_base_iff]; simpa using hpos
  have p0 : 0 < poly t := by
    have := poly_strictMonoOn ⟨le_refl 0, zero_le_one⟩ I hpos
    rwa [poly_zero] at this
  have p3 : poly t < 3 := (mono I ⟨zero_le_one, le_refl 1⟩ h1).trans_lt (by unfold poly; norm_num)
  have pl1 : t ≤ 1362809 / 4194304 → poly t < 1 := fun h =>
    (mono I ⟨by norm_num, by norm_num⟩ h).trans_lt (by unfold poly; norm_num)
  have pg1 : 5451253 / 16777216 ≤ t → 1 < poly t := fun h =>
    lt_of_lt_of_le (by unfold poly; norm_num) (mono ⟨by norm_num, by norm_num⟩ I h)
  have pl2 : t ≤ 1523669 / 2097152 → poly t < 2 := fun h =>
    (mono I ⟨by norm_num, by norm_num⟩ h).trans_lt (by unfold poly; norm_num)
  have pg2 : 12189369 / 16777216 ≤ t → 2 < poly t := fun h =>
    lt_of_lt_of_le (by unfold poly; norm_num) (mono ⟨by norm_num, by norm_num⟩ I h)
  rcases hc with ⟨ha, hb⟩
  rcases ha with ha | ha
  · refine ⟨0, Or.inr ?_⟩
    push_cast
    exact ⟨p0, by linarith [pl1 ha], gt0, by linarith [lt1 ha]⟩
  · rcases hb with hb | hb
    · refine ⟨1, Or.inr ?_⟩
      push_cast
      exact ⟨pg1 ha, by linarith [pl2 hb], gt1 ha, by linarith [lt2 hb]⟩
    · refine ⟨2, Or.inr ?_⟩
      push_cast
      exact ⟨pg2 hb, by linarith, gt2 hb, by linarith⟩

/-! ## The whole turn -/

/-- The ratio of the smaller of `|gx|` and `|gy|` to the larger, zero where both are zero. -/
def ratio (gx gy : ℝ) : ℝ := min |gx| |gy| / (if max |gx| |gy| = 0 then 1 else max |gx| |gy|)

/-- The eighth of a turn's value `u` unfolded to the half turn, -/
def unfoldHalf (gx gy u : ℝ) : ℝ := if gy < 0 then 10 - (if |gy| < |gx| then 5 - u else u) else (if |gy| < |gx| then 5 - u else u)

/-- and to the whole turn. -/
def unfoldTurn (gx gy u : ℝ) : ℝ := if gx < 0 then 0 - unfoldHalf gx gy u else unfoldHalf gx gy u

/-- Unfolding keeps two numbers in one cell. -/
theorem cell_unfoldTurn {a b : ℝ} (gx gy : ℝ) (h : Cell a b) : Cell (unfoldTurn gx gy a) (unfoldTurn gx gy b) := by
  have h5 : Cell (5 - a) (5 - b) := by simpa using h.sub 5
  have hq : Cell (if |gy| < |gx| then 5 - a else a) (if |gy| < |gx| then 5 - b else b) := by
    split
    · exact h5
    · exact h
  have hh : Cell (unfoldHalf gx gy a) (unfoldHalf gx gy b) := by
    unfold unfoldHalf
    by_cases c : gy < 0
    · simp only [c, if_true]; simpa using hq.sub 10
    · simp only [c, if_false]; exact hq
  unfold unfoldTurn
  by_cases c : gx < 0
  · simp only [c, if_true]; simpa using hh.sub 0
  · simp only [c, if_false]; exact hh

/-- The angle of the point `(x, y)` from the first axis. -/
def atan2 (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The angle in tenths of a half turn is the unfolding of the ratio's. -/
theorem unfoldTurn_base (gx gy : ℝ) : unfoldTurn gx gy (base (ratio gx gy)) = atan2 gx gy / Real.pi * 10 := by
  have hpi := Real.pi_pos
  have key : ∀ A B : ℝ, 0 ≤ A → 0 < B → (if B < A then 5 - base (ratio A B) else base (ratio A B)) = Real.arctan (A / B) / Real.pi * 10 := by
    intro A B hA hB
    unfold base ratio
    rw [abs_of_nonneg hA, abs_of_pos hB]
    by_cases h : B < A
    · have hAp : 0 < A := hB.trans h
      rw [if_pos h, min_eq_right h.le, max_eq_left h.le, if_neg hAp.ne']
      have := Real.arctan_inv_of_pos (div_pos hB hAp)
      rw [inv_div] at this
      rw [this]
      field_simp
      ring
    · rw [if_neg h, min_eq_left (not_lt.1 h), max_eq_right (not_lt.1 h), if_neg hB.ne']
  have key0 : ∀ A : ℝ, 0 < A → (if (0:ℝ) < A then 5 - base (ratio A 0) else base (ratio A 0)) = 5 := by
    intro A hA
    rw [if_pos hA]
    unfold base ratio
    rw [abs_zero, min_eq_right (abs_nonneg A)]
    simp
  have r1 : ratio gx gy = ratio |gx| |gy| := by unfold ratio; rw [abs_abs, abs_abs]
  unfold unfoldTurn unfoldHalf atan2
  rw [r1]
  rcases lt_trichotomy gy 0 with hy | hy | hy
  · rw [key _ _ (abs_nonneg gx) (abs_pos.2 hy.ne), if_pos hy, if_neg hy.le.not_gt, if_pos hy, abs_of_neg hy]
    by_cases hx : gx < 0
    · rw [if_pos hx, if_neg hx.not_ge, abs_of_neg hx, neg_div_neg_eq]
      field_simp
      ring
    · rw [if_neg hx, if_pos (not_lt.1 hx), abs_of_nonneg (not_lt.1 hx), div_neg, Real.arctan_neg]
      field_simp
      ring
  · subst hy
    rw [abs_zero, if_neg (lt_irrefl _), if_neg (lt_irrefl _), if_neg (lt_irrefl _)]
    rcases lt_trichotomy gx 0 with hx | hx | hx
    · rw [key0 _ (abs_pos.2 hx.ne), if_pos hx, if_neg hx.le.not_gt, if_pos hx]
      field_simp
      ring
    · subst hx
      simp [base, ratio]
    · rw [key0 _ (abs_pos.2 hx.ne'), if_neg hx.le.not_gt, if_pos hx]
      field_simp
      ring
  · rw [key _ _ (abs_nonneg gx) (abs_pos.2 hy.ne'), if_neg hy.le.not_gt, if_pos hy, abs_of_pos hy]
    by_cases hx : gx < 0
    · rw [if_pos hx, abs_of_neg hx, neg_div, Real.arctan_neg]
      ring
    · rw [if_neg hx, abs_of_nonneg (not_lt.1 hx)]

/-- The components' ratio is clear of the bins' edges. -/
def Clear (gx gy : ℝ) : Prop :=
  (min |gx| |gy| ≤ 1362809 / 4194304 * max |gx| |gy| ∨ 5451253 / 16777216 * max |gx| |gy| ≤ min |gx| |gy|)
    ∧ (min |gx| |gy| ≤ 1523669 / 2097152 * max |gx| |gy| ∨ 12189369 / 16777216 * max |gx| |gy| ≤ min |gx| |gy|)

theorem ratio_nonneg (gx gy : ℝ) : 0 ≤ ratio gx gy := by
  unfold ratio
  refine div_nonneg (le_min (abs_nonneg _) (abs_nonneg _)) ?_
  split
  · exact zero_le_one
  · exact (abs_nonneg gx).trans (le_max_left _ _)

theorem ratio_le_one (gx gy : ℝ) : ratio gx gy ≤ 1 := by
  unfold ratio
  have hm : 0 ≤ max |gx| |gy| := (abs_nonneg gx).trans (le_max_left _ _)
  have hl : min |gx| |gy| ≤ max |gx| |gy| := min_le_max
  split
  · next h => rw [h] at hl; linarith
  · next h => rw [div_le_one (lt_of_le_of_ne hm (Ne.symm h))]; exact hl

theorem clearRatio_of_clear {gx gy : ℝ} (h : Clear gx gy) : ClearRatio (ratio gx gy) := by
  have hm : 0 ≤ max |gx| |gy| := (abs_nonneg gx).trans (le_max_left _ _)
  unfold ratio
  by_cases h0 : max |gx| |gy| = 0
  · have hl : min |gx| |gy| ≤ max |gx| |gy| := min_le_max
    rw [if_pos h0, div_one]
    rw [h0] at hl
    exact ⟨Or.inl (by linarith), Or.inl (by linarith)⟩
  · have hp : 0 < max |gx| |gy| := lt_of_le_of_ne hm (Ne.symm h0)
    rw [if_neg h0]
    refine ⟨h.1.imp (fun q => ?_) (fun q => ?_), h.2.imp (fun q => ?_) (fun q => ?_)⟩
    · rwa [div_le_iff₀ hp]
    · rwa [le_div_iff₀ hp]
    · rwa [div_le_iff₀ hp]
    · rwa [le_div_iff₀ hp]

/-- The phase the polynomial gives, in tenths of a half turn. -/
def polyPhase (gx gy : ℝ) : ℝ := unfoldTurn gx gy (poly (ratio gx gy))

/-- The phase itself. -/
def truePhase (gx gy : ℝ) : ℝ := atan2 gx gy / Real.pi * 10

/-- Clear of the bins' edges the two phases share a cell. -/
theorem cell_phase {gx gy : ℝ} (h : Clear gx gy) : Cell (polyPhase gx gy) (truePhase gx gy) := by
  unfold truePhase polyPhase
  rw [← unfoldTurn_base]
  exact cell_unfoldTurn gx gy (cell_base (ratio_nonneg gx gy) (ratio_le_one gx gy) (clearRatio_of_clear h))

/-- The polynomial's values between zero and three, -/
theorem poly_bounds {t : ℝ} (h0 : 0 ≤ t) (h1 : t ≤ 1) : 0 ≤ poly t ∧ poly t ≤ 3 := by
  have mono := poly_strictMonoOn.monotoneOn
  have I : t ∈ Set.Icc (0:ℝ) 1 := ⟨h0, h1⟩
  constructor
  · rw [← poly_zero]; exact mono ⟨le_refl 0, zero_le_one⟩ I h0
  · exact (mono I ⟨zero_le_one, le_refl 1⟩ h1).trans (by unfold poly; norm_num)

/-- so the phase it gives is within ten of zero. -/
theorem polyPhase_bounds (gx gy : ℝ) : -10 ≤ polyPhase gx gy ∧ polyPhase gx gy ≤ 10 := by
  obtain ⟨h0, h1⟩ := poly_bounds (ratio_nonneg gx gy) (ratio_le_one gx gy)
  unfold polyPhase unfoldTurn unfoldHalf
  constructor <;> (split_ifs <;> linarith)

end Cert.Hog

end
-- ==== Proof.Pixel.lean ====
/- One pixel's share of a bin: as the reference scatters it and as the kernel selects it, and their equality. -/
module

public import proofs.«01_k».proof.Proof.Angle

@[expose] public section

noncomputable section

namespace Cert.Hog

/-- The gradient's length. -/
def mag (gx gy : ℝ) : ℝ := √(gx * gx + gy * gy)

/-- What one pixel adds to bin `b`: its length where the phase's floor falls in the bin, one minus it where the ceiling does. -/
def pixel (gx gy : ℝ) (b : ℕ) : ℝ :=
  (if ⌊truePhase gx gy⌋ % 10 = (b : ℤ) then mag gx gy else 0) + (if ⌈truePhase gx gy⌉ % 10 = (b : ℤ) then 1 - mag gx gy else 0)

/-- The bin of the polynomial phase's floor, as a number. -/
def kbin (gx gy : ℝ) : ℝ :=
  if (if (⌊polyPhase gx gy⌋ : ℝ) < 0 then (⌊polyPhase gx gy⌋ : ℝ) + 10 else ⌊polyPhase gx gy⌋) ≥ 10
  then (if (⌊polyPhase gx gy⌋ : ℝ) < 0 then (⌊polyPhase gx gy⌋ : ℝ) + 10 else ⌊polyPhase gx gy⌋) - 10
  else (if (⌊polyPhase gx gy⌋ : ℝ) < 0 then (⌊polyPhase gx gy⌋ : ℝ) + 10 else ⌊polyPhase gx gy⌋)

/-- The weight of that bin. -/
def kweight (gx gy : ℝ) : ℝ := if (⌊polyPhase gx gy⌋ : ℝ) = polyPhase gx gy then 1 else mag gx gy

/-- What the kernel adds to bin `b`, of which `c` is the bin before. -/
def pixelK (gx gy b c : ℝ) : ℝ := if kbin gx gy = b then kweight gx gy else if kbin gx gy = c then 1 - kweight gx gy else 0

/-- The number is the floor's remainder. -/
theorem kbin_eq (gx gy : ℝ) : kbin gx gy = ((⌊polyPhase gx gy⌋ % 10 : ℤ) : ℝ) := by
  obtain ⟨h0, h1⟩ := polyPhase_bounds gx gy
  have l : -10 ≤ ⌊polyPhase gx gy⌋ := Int.le_floor.2 (by push_cast; exact h0)
  have u : ⌊polyPhase gx gy⌋ ≤ 10 := by
    have : (⌊polyPhase gx gy⌋ : ℝ) ≤ 10 := (Int.floor_le _).trans h1
    exact_mod_cast this
  unfold kbin
  generalize ⌊polyPhase gx gy⌋ = F at l u
  by_cases n : F < 0
  · have c : (F : ℝ) < 0 := by exact_mod_cast n
    have e : F % 10 = F + 10 := by omega
    have d : ¬ ((F : ℝ) + 10 ≥ 10) := by push Not; linarith
    simp only [c, if_true, d, if_false, e]
    push_cast; ring
  · have c : ¬ (F : ℝ) < 0 := by exact_mod_cast n
    simp only [c, if_false]
    by_cases t : F = 10
    · subst t; norm_num
    · have d : ¬ ((F : ℝ) ≥ 10) := by
        have : F < 10 := by omega
        have : (F : ℝ) < 10 := by exact_mod_cast this
        push Not; exact this
      have e : F % 10 = F := by omega
      rw [if_neg d, e]

/-- Clear of the bins' edges, the kernel adds what the reference does. -/
theorem pixelK_eq {gx gy : ℝ} (h : Clear gx gy) (b : ℕ) (hb : b < 10) :
    pixelK gx gy (b : ℝ) (((b + 9) % 10 : ℕ) : ℝ) = pixel gx gy b := by
  have hc := cell_phase h
  have hf := hc.floor_eq
  have hi := hc.isInt
  unfold pixelK pixel kweight
  rw [kbin_eq, hf]
  have e1 : (((⌊truePhase gx gy⌋ % 10 : ℤ) : ℝ) = (b : ℝ)) ↔ ⌊truePhase gx gy⌋ % 10 = (b : ℤ) := by
    rw [← Int.cast_natCast, Int.cast_inj]
  have e2 : (((⌊truePhase gx gy⌋ % 10 : ℤ) : ℝ) = (((b + 9) % 10 : ℕ) : ℝ)) ↔ (⌊truePhase gx gy⌋ + 1) % 10 = (b : ℤ) := by
    rw [← Int.cast_natCast, Int.cast_inj]
    omega
  simp only [e1, e2]
  rw [hf] at hi
  by_cases hint : (⌊truePhase gx gy⌋ : ℝ) = truePhase gx gy
  · have hceil : ⌈truePhase gx gy⌉ = ⌊truePhase gx gy⌋ := by
      rw [Int.ceil_eq_iff]
      constructor <;> linarith
    rw [if_pos (hi.2 hint), hceil]
    by_cases q : ⌊truePhase gx gy⌋ % 10 = (b : ℤ)
    · simp [q]
    · simp [q]
  · have hceil : ⌈truePhase gx gy⌉ = ⌊truePhase gx gy⌋ + 1 := by
      rw [Int.ceil_eq_iff]
      push_cast
      have h1 := Int.floor_le (truePhase gx gy)
      have h2 := Int.lt_floor_add_one (truePhase gx gy)
      refine ⟨?_, h2.le⟩
      have := lt_of_le_of_ne h1 hint
      linarith
    rw [if_neg (fun q => hint (hi.1 q)), hceil]
    by_cases q : ⌊truePhase gx gy⌋ % 10 = (b : ℤ)
    · have : ¬ (⌊truePhase gx gy⌋ + 1) % 10 = (b : ℤ) := by omega
      simp [q, this]
    · simp [q]

end Cert.Hog

end
-- ==== Proof.Arith.lean ====
/- The operations of the ideal instance at an element where their operands are real numbers, and the literals' values. -/
module

public import proofs.«01_k».proof.Proof.Pixel
public import Idealize.ShloMosaic.Lib.ValueIdxCore
public import Idealize.ShloMosaic.PureOps.Ideal

@[expose] public section

noncomputable section

namespace Cert.Hog

open Idealize.ShloMosaic Idealize.ShloMosaic.ValueIdx

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

theorem lit_five : Ideal.ofBits .f32 0x40A00000#32 = ((5 : ℝ) : EReal) := by
  simp [Ideal.ofBits, Ideal.ieee, -EReal.coe_mul]; norm_num

theorem lit_six : Ideal.ofBits .f32 0x40C00000#32 = ((6 : ℝ) : EReal) := by
  simp [Ideal.ofBits, Ideal.ieee, -EReal.coe_mul]; norm_num

theorem lit_seven : Ideal.ofBits .f32 0x40E00000#32 = ((7 : ℝ) : EReal) := by
  simp [Ideal.ofBits, Ideal.ieee, -EReal.coe_mul]; norm_num

theorem lit_eight : Ideal.ofBits .f32 0x41000000#32 = ((8 : ℝ) : EReal) := by
  simp [Ideal.ofBits, Ideal.ieee, -EReal.coe_mul]; norm_num

theorem lit_nine : Ideal.ofBits .f32 0x41100000#32 = ((9 : ℝ) : EReal) := by
  simp [Ideal.ofBits, Ideal.ieee, -EReal.coe_mul]; norm_num

theorem lit_ten : Ideal.ofBits .f32 0x41200000#32 = ((10 : ℝ) : EReal) := by
  simp [Ideal.ofBits, Ideal.ieee, -EReal.coe_mul]; norm_num

theorem lit_c6 : Ideal.ofBits .f32 0x3CBCB7B1#32 = ((12367793 / 536870912 : ℝ) : EReal) := by
  simp [Ideal.ofBits, Ideal.ieee, -EReal.coe_mul]; norm_num

theorem lit_c5 : Ideal.ofBits .f32 0xBDE36E2C#32 = ((-3726219 / 33554432 : ℝ) : EReal) := by
  simp [Ideal.ofBits, Ideal.ieee, -EReal.coe_mul]; norm_num

theorem lit_c4 : Ideal.ofBits .f32 0x3E84279D#32 = ((8660893 / 33554432 : ℝ) : EReal) := by
  simp [Ideal.ofBits, Ideal.ieee, -EReal.coe_mul]; norm_num

theorem lit_c3 : Ideal.ofBits .f32 0xBED8F4CC#32 = ((-3554611 / 8388608 : ℝ) : EReal) := by
  simp [Ideal.ofBits, Ideal.ieee, -EReal.coe_mul]; norm_num

theorem lit_c2 : Ideal.ofBits .f32 0x3F2192D6#32 = ((5294443 / 8388608 : ℝ) : EReal) := by
  simp [Ideal.ofBits, Ideal.ieee, -EReal.coe_mul]; norm_num

theorem lit_c1 : Ideal.ofBits .f32 0xBF87C18B#32 = ((-8896907 / 8388608 : ℝ) : EReal) := by
  simp [Ideal.ofBits, Ideal.ieee, -EReal.coe_mul]; norm_num

theorem lit_c0 : Ideal.ofBits .f32 0x404BB7B9#32 = ((13350841 / 4194304 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

theorem lit_sixtyfour : Ideal.ofBits .f32 0x42800000#32 = ((64 : ℝ) : EReal) := by
  simp [Ideal.ofBits, Ideal.ieee, -EReal.coe_mul]; norm_num

theorem lit_negOne : Ideal.ofBits .f32 0xBF800000#32 = ((-1 : ℝ) : EReal) := by
  simp [Ideal.ofBits, Ideal.ieee, -EReal.coe_mul]; norm_num

theorem lit_negTwo : Ideal.ofBits .f32 0xC0000000#32 = ((-2 : ℝ) : EReal) := by
  simp [Ideal.ofBits, Ideal.ieee, -EReal.coe_mul]; norm_num

theorem lit_lo1 : Ideal.ofBits .f32 0x3EA65BC8#32 = ((1362809 / 4194304 : ℝ) : EReal) := by
  simp [Ideal.ofBits, Ideal.ieee, -EReal.coe_mul]; norm_num

theorem lit_hi1 : Ideal.ofBits .f32 0x3EA65BEA#32 = ((5451253 / 16777216 : ℝ) : EReal) := by
  simp [Ideal.ofBits, Ideal.ieee, -EReal.coe_mul]; norm_num

theorem lit_lo2 : Ideal.ofBits .f32 0x3F39FEA8#32 = ((1523669 / 2097152 : ℝ) : EReal) := by
  simp [Ideal.ofBits, Ideal.ieee, -EReal.coe_mul]; norm_num

theorem lit_hi2 : Ideal.ofBits .f32 0x3F39FEB9#32 = ((12189369 / 16777216 : ℝ) : EReal) := by
  simp [Ideal.ofBits, Ideal.ieee, -EReal.coe_mul]; norm_num

/-- A choice by a comparison's bit is the choice by its truth. -/
theorem select_ofBool {α : Type} (p : Prop) [Decidable p] (a b : α) : Scalar.select (BitVec.ofBool (decide p)) a b = if p then a else b := by
  by_cases h : p
  · simp only [h, decide_true, if_true]; rfl
  · simp only [h, decide_false, if_false]; rfl

section Steps
variable {s : Shape} {x y u v : FVec Ideal s .f32} {i : s.Idx} {a b p q : ℝ}

theorem add_at (hx : x i = (a : EReal)) (hy : y i = (b : EReal)) : addf x y i = ((a + b : ℝ) : EReal) := by
  show x i + y i = _
  rw [hx, hy, EReal.coe_add]

theorem sub_at (hx : x i = (a : EReal)) (hy : y i = (b : EReal)) : subf x y i = ((a - b : ℝ) : EReal) := by
  show x i - y i = _
  rw [hx, hy, EReal.coe_sub]

theorem mul_at (hx : x i = (a : EReal)) (hy : y i = (b : EReal)) : mulf x y i = ((a * b : ℝ) : EReal) := by
  show x i * y i = _
  rw [hx, hy, EReal.coe_mul]

theorem div_at (hx : x i = (a : EReal)) (hy : y i = (b : EReal)) (h : b ≠ 0) : divf x y i = ((a / b : ℝ) : EReal) := by
  show Ideal.div (x i) (y i) = _
  rw [hx, hy, Ideal.div_coe h, ← EReal.coe_mul, mul_one_div]

theorem sqrt_at (hx : x i = (a : EReal)) (h : 0 ≤ a) : sqrt x i = ((√a : ℝ) : EReal) := by
  show Ideal.sqrt (x i) = _
  rw [hx, Ideal.sqrt_coe, if_neg (not_lt.2 h)]

theorem abs_coe_max (a : ℝ) : max (a : EReal) (-(a : EReal)) = ((|a| : ℝ) : EReal) := by
  rw [← EReal.coe_neg, ← EReal.coe_strictMono.monotone.map_max]; rfl

theorem abs_at (hx : x i = (a : EReal)) : absf x i = ((|a| : ℝ) : EReal) := by
  show max (x i) (-x i) = _
  rw [hx, abs_coe_max]

theorem max_at (hx : x i = (a : EReal)) (hy : y i = (b : EReal)) : maximumf x y i = ((max a b : ℝ) : EReal) := by
  show max (x i) (y i) = _
  rw [hx, hy, ← EReal.coe_strictMono.monotone.map_max]

theorem min_at (hx : x i = (a : EReal)) (hy : y i = (b : EReal)) : minimumf x y i = ((min a b : ℝ) : EReal) := by
  show min (x i) (y i) = _
  rw [hx, hy, ← EReal.coe_strictMono.monotone.map_min]

theorem floor_at (hx : x i = (a : EReal)) : floor x i = (((⌊a⌋ : ℤ) : ℝ) : EReal) := by
  show Ideal.liftRound Int.floor (x i) = _
  rw [hx, Ideal.liftRound_coe]

theorem lit_at {w : BitVec 32} (h : Ideal.ofBits .f32 w = (a : EReal)) : (broadcast s (Scalar.ofBits .f32 w) : FVec Ideal s .f32) i = (a : EReal) := h

theorem select_lt_at (hx : x i = (a : EReal)) (hy : y i = (b : EReal)) (hu : u i = (p : EReal)) (hv : v i = (q : EReal)) :
    select (cmpf .olt x y) u v i = ((if a < b then p else q : ℝ) : EReal) := by
  show Scalar.select (BitVec.ofBool (decide (x i < y i))) (u i) (v i) = _
  rw [select_ofBool, hx, hy, hu, hv]
  by_cases h : a < b
  · rw [if_pos h, if_pos (EReal.coe_lt_coe_iff.2 h)]
  · rw [if_neg h, if_neg (fun c => h (EReal.coe_lt_coe_iff.1 c))]

theorem select_gt_at (hx : x i = (a : EReal)) (hy : y i = (b : EReal)) (hu : u i = (p : EReal)) (hv : v i = (q : EReal)) :
    select (cmpf .ogt x y) u v i = ((if b < a then p else q : ℝ) : EReal) := by
  show Scalar.select (BitVec.ofBool (decide (y i < x i))) (u i) (v i) = _
  rw [select_ofBool, hx, hy, hu, hv]
  by_cases h : b < a
  · rw [if_pos h, if_pos (EReal.coe_lt_coe_iff.2 h)]
  · rw [if_neg h, if_neg (fun c => h (EReal.coe_lt_coe_iff.1 c))]

theorem select_ge_at (hx : x i = (a : EReal)) (hy : y i = (b : EReal)) (hu : u i = (p : EReal)) (hv : v i = (q : EReal)) :
    select (cmpf .oge x y) u v i = ((if a ≥ b then p else q : ℝ) : EReal) := by
  show Scalar.select (BitVec.ofBool (decide (y i ≤ x i))) (u i) (v i) = _
  rw [select_ofBool, hx, hy, hu, hv]
  by_cases h : b ≤ a
  · rw [if_pos h, if_pos (EReal.coe_le_coe_iff.2 h)]
  · rw [if_neg h, if_neg (fun c => h (EReal.coe_le_coe_iff.1 c))]

theorem select_eq_at (hx : x i = (a : EReal)) (hy : y i = (b : EReal)) (hu : u i = (p : EReal)) (hv : v i = (q : EReal)) :
    select (cmpf .oeq x y) u v i = ((if a = b then p else q : ℝ) : EReal) := by
  show Scalar.select (BitVec.ofBool (decide (x i = y i))) (u i) (v i) = _
  rw [select_ofBool, hx, hy, hu, hv]
  by_cases h : a = b
  · rw [if_pos h, if_pos (EReal.coe_eq_coe_iff.2 h)]
  · rw [if_neg h, if_neg (fun c => h (EReal.coe_eq_coe_iff.1 c))]

end Steps

/-- A finite sum of real numbers, as extended reals. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S h ih => rw [Finset.sum_insert h, Finset.sum_insert h, ih, EReal.coe_add]

/-- A sum over `8 n` numbers weighted by one eighth on the `j`-th eight of them and zero elsewhere: the mean of the eight. -/
theorem sum_eighths (n : ℕ) (g : ℕ → ℝ) (j : ℕ) (hj : j < n) :
    ∑ k : Fin (n * 8), g k.val * (if k.val / 8 = j then 1 / 8 else 0) = ∑ b : Fin 8, g (8 * j + b.val) * (1 / 8) := by
  rw [← finProdFinEquiv.sum_comp, Fintype.sum_prod_type]
  rw [Finset.sum_eq_single (⟨j, hj⟩ : Fin n)]
  · refine Finset.sum_congr rfl fun b _ => ?_
    have hb := b.isLt
    have e : (finProdFinEquiv ((⟨j, hj⟩ : Fin n), b)).val = 8 * j + b.val := by
      simp [finProdFinEquiv]; omega
    rw [e, if_pos (by omega)]
  · intro c _ hc
    refine Finset.sum_eq_zero fun b _ => ?_
    have hb := b.isLt
    have e : (finProdFinEquiv (c, b)).val = 8 * c.val + b.val := by
      simp [finProdFinEquiv]; omega
    have : c.val ≠ j := fun h => hc (Fin.ext h)
    rw [e, if_neg (by omega), mul_zero]
  · intro h; exact absurd (Finset.mem_univ _) h

end Cert.Hog

end
-- ==== Proof.KernelPixel.lean ====
/- The kernel's body before its products, one pixel at a time: the gradient, its length, the polynomial's phase, its bin and its weight. -/
module

public import proofs.«01_k».proof.Proof.Arith
public import proofs.«01_k».proof.Proof.Gen.KernelIdeal.Frame
public import Idealize.ShloMosaic.Lib.Pipeline.Value
public import Idealize.ShloMosaic.Lib.KernelVsHost
public import Idealize.ShloMosaic.Lib.WordCmp

@[expose] public section

noncomputable section

namespace Cert.Hog

open Idealize.ShloMosaic Idealize.ShloMosaic.ValueIdx Idealize.ShloMosaic.WordCmp Cert.KernelIdeal Cert.KernelIdeal.Gen

/-- The horizontal gradient at row `h`, column `w` of image `v` of a padded stack of images. -/
def gradX (Q : ℕ → ℕ → ℕ → ℝ) (v h w : ℕ) : ℝ :=
  (Q v h w + 2 * Q v (h + 1) w + Q v (h + 2) w) - (Q v h (w + 2) + 2 * Q v (h + 1) (w + 2) + Q v (h + 2) (w + 2))

/-- The vertical gradient there. -/
def gradY (Q : ℕ → ℕ → ℕ → ℝ) (v h w : ℕ) : ℝ :=
  (Q v h w - Q v (h + 2) w) + 2 * (Q v h (w + 1) - Q v (h + 2) (w + 1)) + (Q v h (w + 2) - Q v (h + 2) (w + 2))

/-- A padded stack of images is zero on the frame of 512 by 512 images. -/
structure Framed (Q : ℕ → ℕ → ℕ → ℝ) : Prop where
  top : ∀ v j, Q v 0 j = 0
  bottom : ∀ v j, Q v 513 j = 0
  left : ∀ v i, Q v i 0 = 0
  right : ∀ v i, Q v i 513 = 0

/-- A block of four images holds a padded stack's interior. -/
def Holds (x0 : Vec Ideal S4x1x512x512 .f32) (Q : ℕ → ℕ → ℕ → ℝ) : Prop :=
  ∀ (v : Fin 4) (i j : Fin 512), x0 (ix4 v (0 : Fin 1) i j) = ((Q v.val (i.val + 1) (j.val + 1) : ℝ) : EReal)

theorem select_cmpi_eq {α : Type} (x y : BitVec 32) (a b : α) : Scalar.select (IntOp.cmpi .eq x y) a b = if x = y then a else b := by
  rw [cmpi_eq_eq, select_ofBool]

/-- The rows' block is read whole. -/
theorem ld_whole (x0 : Vec Ideal S4x1x512x512 .f32) : View.ld x0 r0_0 = x0 := by
  exact View.ld_unit_zero (by funext a; fin_cases a <;> rfl) _ x0

/-- The stacked rows: row `r` is row `r % 512` of image `r / 512`. -/
theorem rows_at {x0 : Vec Ideal S4x1x512x512 .f32} {Q : ℕ → ℕ → ℕ → ℝ} (h : Holds x0 Q) (r : Fin 2048) (c : Fin 512) :
    k0_pay3 (View.ld x0 r0_0) (ix2 r c) = ((Q (r.val / 512) (r.val % 512 + 1) (c.val + 1) : ℝ) : EReal) := by
  rw [ld_whole]
  have hr := r.isLt
  have hc := c.isLt
  show shapeCast S2048x512 x0 _ (ix2 r c) = _
  rw [shapeCast_apply x0 _ (ix2 r c) (ix4 (⟨r.val / 512, by omega⟩ : Fin 4) (0 : Fin 1) (⟨r.val % 512, by omega⟩ : Fin 512) c)]
  · exact h _ _ _
  · rw [Shape.rowMajor_val_four, Shape.rowMajor_val_two]
    show ((r.val / 512 * 1 + 0) * 512 + r.val % 512) * 512 + c.val = r.val * 512 + c.val
    omega

/-- The row's number within its image. -/
theorem rowWord_at (r : Fin 2048) (c : Fin 512) : k0_pay4 (ix2 r c) = BitVec.ofNat 32 (r.val % 512) := by
  have hr := r.isLt
  show IntOp.andi (iota .tc S2048x512 32 [0] _ (ix2 r c)) 511#32 = _
  rw [iota_single_apply]
  show BitVec.ofNat 32 r.val &&& 511#32 = _
  apply BitVec.eq_of_toNat_eq
  rw [BitVec.toNat_and, BitVec.toNat_ofNat, BitVec.toNat_ofNat, BitVec.toNat_ofNat]
  rw [Nat.mod_eq_of_lt (show r.val < 2 ^ 32 by omega), Nat.mod_eq_of_lt (show r.val % 512 < 2 ^ 32 by omega)]
  exact Nat.and_two_pow_sub_one_eq_mod r.val 9

theorem zero_at (i : S2048x512.Idx) : (k0_pay5 (F := Ideal)) i = ((0 : ℝ) : EReal) := lit_zero

theorem ofNat_eq_iff {a b : ℕ} (ha : a < 2 ^ 32) (hb : b < 2 ^ 32) : BitVec.ofNat 32 a = BitVec.ofNat 32 b ↔ a = b :=
  ofNat_eq_ofNat_iff ha hb

/-- The row above, zero above an image's first. -/
theorem above_at {x0 : Vec Ideal S4x1x512x512 .f32} {Q : ℕ → ℕ → ℕ → ℝ} (hF : Framed Q) (h : Holds x0 Q) (r : Fin 2048) (c : Fin 512) :
    k0_pay6 (View.ld x0 r0_0) (ix2 r c) = ((Q (r.val / 512) (r.val % 512) (c.val + 1) : ℝ) : EReal) := by
  have hr := r.isLt
  show Scalar.select (IntOp.cmpi .eq (k0_pay4 (ix2 r c)) 0#32) ((k0_pay5 (F := Ideal)) (ix2 r c))
    (dynamicRotate 0 1#32 none (k0_pay3 (View.ld x0 r0_0)) _ (ix2 r c)) = _
  rw [rowWord_at, select_cmpi_eq, zero_at]
  by_cases h0 : r.val % 512 = 0
  · rw [if_pos (by rw [h0]), h0, hF.top]
  · rw [if_neg (fun e => h0 ((ofNat_eq_iff (by omega) (by norm_num)).1 e))]
    rw [dynamicRotate_apply 0 1#32 _ _ (ix2 r c) (ix2 (⟨r.val - 1, by omega⟩ : Fin 2048) c) (by
      intro b
      match b with
      | ⟨0, _⟩ =>
        show r.val - 1 = (r.val + 2048 - 1) % 2048
        omega
      | ⟨1, _⟩ => rfl)]
    rw [rows_at h]
    show ((Q ((r.val - 1) / 512) ((r.val - 1) % 512 + 1) (c.val + 1) : ℝ) : EReal) = _
    rw [show (r.val - 1) / 512 = r.val / 512 by omega, show (r.val - 1) % 512 + 1 = r.val % 512 by omega]

/-- The row below, zero below an image's last. -/
theorem below_at {x0 : Vec Ideal S4x1x512x512 .f32} {Q : ℕ → ℕ → ℕ → ℝ} (hF : Framed Q) (h : Holds x0 Q) (r : Fin 2048) (c : Fin 512) :
    k0_pay7 (View.ld x0 r0_0) (ix2 r c) = ((Q (r.val / 512) (r.val % 512 + 2) (c.val + 1) : ℝ) : EReal) := by
  have hr := r.isLt
  show Scalar.select (IntOp.cmpi .eq (k0_pay4 (ix2 r c)) 511#32) ((k0_pay5 (F := Ideal)) (ix2 r c))
    (dynamicRotate 0 2047#32 none (k0_pay3 (View.ld x0 r0_0)) _ (ix2 r c)) = _
  rw [rowWord_at, select_cmpi_eq, zero_at]
  by_cases h0 : r.val % 512 = 511
  · rw [if_pos (by rw [h0]), h0, hF.bottom]
  · rw [if_neg (fun e => h0 ((ofNat_eq_iff (by omega) (by norm_num)).1 e))]
    rw [dynamicRotate_apply 0 2047#32 _ _ (ix2 r c) (ix2 (⟨r.val + 1, by omega⟩ : Fin 2048) c) (by
      intro b
      match b with
      | ⟨0, _⟩ =>
        show r.val + 1 = (r.val + 2048 - 2047) % 2048
        omega
      | ⟨1, _⟩ => rfl)]
    rw [rows_at h]
    show ((Q ((r.val + 1) / 512) ((r.val + 1) % 512 + 1) (c.val + 1) : ℝ) : EReal) = _
    rw [show (r.val + 1) / 512 = r.val / 512 by omega, show (r.val + 1) % 512 + 1 = r.val % 512 + 2 by omega]

/-- A vector moved one column right, zero coming in. -/
theorem left_at {y : FVec Ideal S2048x512 .f32} {G : ℕ → ℕ → ℝ} (hl : ∀ r, G r 0 = 0)
    (hy : ∀ (r : Fin 2048) (c : Fin 512), y (ix2 r c) = ((G r.val (c.val + 1) : ℝ) : EReal)) (hi : S2048x512.Iotas .tc 32 [1])
    (hr : S2048x512.Rotates 1 none) (r : Fin 2048) (c : Fin 512) :
    select (cmpi .eq (iota .tc S2048x512 32 [1] hi) (broadcast S2048x512 0#32)) (k0_pay5 (F := Ideal)) (dynamicRotate 1 1#32 none y hr) (ix2 r c)
      = ((G r.val c.val : ℝ) : EReal) := by
  have hc := c.isLt
  show Scalar.select (IntOp.cmpi .eq (iota .tc S2048x512 32 [1] hi (ix2 r c)) 0#32) ((k0_pay5 (F := Ideal)) (ix2 r c))
    (dynamicRotate 1 1#32 none y _ (ix2 r c)) = _
  rw [iota_single_apply, select_cmpi_eq, zero_at]
  show (if BitVec.ofNat 32 c.val = BitVec.ofNat 32 0 then _ else _) = _
  by_cases h0 : c.val = 0
  · rw [if_pos (by rw [h0]), h0, hl]
  · rw [if_neg (fun e => h0 ((ofNat_eq_iff (by omega) (by norm_num)).1 e))]
    rw [dynamicRotate_apply 1 1#32 _ _ (ix2 r c) (ix2 r (⟨c.val - 1, by omega⟩ : Fin 512)) (by
      intro b
      match b with
      | ⟨0, _⟩ => rfl
      | ⟨1, _⟩ =>
        show c.val - 1 = (c.val + 512 - 1) % 512
        omega)]
    rw [hy]
    show ((G r.val (c.val - 1 + 1) : ℝ) : EReal) = _
    rw [show c.val - 1 + 1 = c.val by omega]

/-- A vector moved one column left, zero coming in. -/
theorem right_at {y : FVec Ideal S2048x512 .f32} {G : ℕ → ℕ → ℝ} (hl : ∀ r, G r 513 = 0)
    (hy : ∀ (r : Fin 2048) (c : Fin 512), y (ix2 r c) = ((G r.val (c.val + 1) : ℝ) : EReal)) (hi : S2048x512.Iotas .tc 32 [1])
    (hr : S2048x512.Rotates 1 none) (r : Fin 2048) (c : Fin 512) :
    select (cmpi .eq (iota .tc S2048x512 32 [1] hi) (broadcast S2048x512 511#32)) (k0_pay5 (F := Ideal)) (dynamicRotate 1 511#32 none y hr) (ix2 r c)
      = ((G r.val (c.val + 2) : ℝ) : EReal) := by
  have hc := c.isLt
  show Scalar.select (IntOp.cmpi .eq (iota .tc S2048x512 32 [1] hi (ix2 r c)) 511#32) ((k0_pay5 (F := Ideal)) (ix2 r c))
    (dynamicRotate 1 511#32 none y _ (ix2 r c)) = _
  rw [iota_single_apply, select_cmpi_eq, zero_at]
  show (if BitVec.ofNat 32 c.val = BitVec.ofNat 32 511 then _ else _) = _
  by_cases h0 : c.val = 511
  · rw [if_pos (by rw [h0]), h0, hl]
  · rw [if_neg (fun e => h0 ((ofNat_eq_iff (by omega) (by norm_num)).1 e))]
    rw [dynamicRotate_apply 1 511#32 _ _ (ix2 r c) (ix2 r (⟨c.val + 1, by omega⟩ : Fin 512)) (by
      intro b
      match b with
      | ⟨0, _⟩ => rfl
      | ⟨1, _⟩ =>
        show c.val + 1 = (c.val + 512 - 511) % 512
        omega)]
    rw [hy]

section Block
variable {x0 : Vec Ideal S4x1x512x512 .f32} {Q : ℕ → ℕ → ℕ → ℝ} (hF : Framed Q) (h : Holds x0 Q) (r : Fin 2048) (c : Fin 512)
include hF h

/-- The rows' difference, -/
theorem diff_at : k0_pay90 x0 (ix2 r c)
    = ((Q (r.val / 512) (r.val % 512) (c.val + 1) - Q (r.val / 512) (r.val % 512 + 2) (c.val + 1) : ℝ) : EReal) :=
  sub_at (above_at hF h r c) (below_at hF h r c)

/-- one column right, -/
theorem diffLeft_at : k0_pay91 x0 (ix2 r c)
    = ((Q (r.val / 512) (r.val % 512) c.val - Q (r.val / 512) (r.val % 512 + 2) c.val : ℝ) : EReal) :=
  left_at (G := fun r c => Q (r / 512) (r % 512) c - Q (r / 512) (r % 512 + 2) c) (fun r => by simp [hF.left])
    (fun r c => diff_at hF h r c) _ _ r c

/-- one column left. -/
theorem diffRight_at : k0_pay92 x0 (ix2 r c)
    = ((Q (r.val / 512) (r.val % 512) (c.val + 2) - Q (r.val / 512) (r.val % 512 + 2) (c.val + 2) : ℝ) : EReal) :=
  right_at (G := fun r c => Q (r / 512) (r % 512) c - Q (r / 512) (r % 512 + 2) c) (fun r => by simp [hF.right])
    (fun r c => diff_at hF h r c) _ _ r c

/-- The horizontal gradient. -/
theorem gradX_at : k0_pay93 x0 (ix2 r c) = ((gradX Q (r.val / 512) (r.val % 512) c.val : ℝ) : EReal) := by
  have hs : ∀ (r : Fin 2048) (c : Fin 512), addf (addf (k0_pay6 (View.ld x0 r0_0)) (mulf (broadcast S2048x512 (Scalar.ofBits .f32 0x40000000#32))
      (k0_pay3 (View.ld x0 r0_0)))) (k0_pay7 (View.ld x0 r0_0)) (ix2 r c)
      = ((Q (r.val / 512) (r.val % 512) (c.val + 1) + 2 * Q (r.val / 512) (r.val % 512 + 1) (c.val + 1)
          + Q (r.val / 512) (r.val % 512 + 2) (c.val + 1) : ℝ) : EReal) := fun r c =>
    add_at (add_at (above_at hF h r c) (mul_at (lit_at lit_two) (rows_at h r c))) (below_at hF h r c)
  exact sub_at
    (left_at (G := fun r c => Q (r / 512) (r % 512) c + 2 * Q (r / 512) (r % 512 + 1) c + Q (r / 512) (r % 512 + 2) c)
      (fun r => by simp [hF.left]) hs _ _ r c)
    (right_at (G := fun r c => Q (r / 512) (r % 512) c + 2 * Q (r / 512) (r % 512 + 1) c + Q (r / 512) (r % 512 + 2) c)
      (fun r => by simp [hF.right]) hs _ _ r c)

/-- The vertical gradient. -/
theorem gradY_at : k0_pay12 (k0_pay90 x0) (k0_pay91 x0) (k0_pay92 x0) (Scalar.ofBits .f32 0x40000000#32) (ix2 r c)
    = ((gradY Q (r.val / 512) (r.val % 512) c.val : ℝ) : EReal) :=
  add_at (add_at (diffLeft_at hF h r c) (mul_at (lit_at lit_two) (diff_at hF h r c))) (diffRight_at hF h r c)

/-- The gradient's length. -/
theorem mag_at : k0_pay94 x0 (ix2 r c) = ((mag (gradX Q (r.val / 512) (r.val % 512) c.val) (gradY Q (r.val / 512) (r.val % 512) c.val) : ℝ) : EReal) :=
  sqrt_at (add_at (mul_at (gradX_at hF h r c) (gradX_at hF h r c)) (mul_at (gradY_at hF h r c) (gradY_at hF h r c)))
    (add_nonneg (mul_self_nonneg _) (mul_self_nonneg _))

/-- The polynomial of the ratio, unfolded to the half turn. -/
theorem half_at : k0_pay95 x0 (ix2 r c) = ((unfoldHalf (gradX Q (r.val / 512) (r.val % 512) c.val) (gradY Q (r.val / 512) (r.val % 512) c.val)
    (poly (ratio (gradX Q (r.val / 512) (r.val % 512) c.val) (gradY Q (r.val / 512) (r.val % 512) c.val))) : ℝ) : EReal) := by
  have hx := gradX_at hF h r c
  have hy := gradY_at hF h r c
  generalize gradX Q (r.val / 512) (r.val % 512) c.val = gx at hx ⊢
  generalize gradY Q (r.val / 512) (r.val % 512) c.val = gy at hy ⊢
  show k0_pay14 (k0_pay90 x0) (k0_pay91 x0) (k0_pay92 x0) (k0_pay93 x0) (Scalar.ofBits .f32 0x40000000#32) (ix2 r c) = _
  unfold k0_pay14
  revert hx hy
  generalize k0_pay12 (k0_pay90 x0) (k0_pay91 x0) (k0_pay92 x0) (Scalar.ofBits .f32 0x40000000#32) = Y
  generalize k0_pay93 x0 = X
  intro hx hy
  have hax := abs_at hx
  have hay := abs_at hy
  have hmx := max_at hax hay
  have hmn := min_at hax hay
  have hden := select_eq_at hmx (lit_at lit_zero (s := S2048x512)) (lit_at lit_one (s := S2048x512)) hmx
  have ht := div_at hmn hden (by split <;> simp_all)
  have hu := mul_at ht ht
  have hp := mul_at (add_at (mul_at (add_at (mul_at (add_at (mul_at (add_at (mul_at (add_at (mul_at (add_at (mul_at (lit_at lit_c6) hu) (lit_at lit_c5)) hu)
    (lit_at lit_c4)) hu) (lit_at lit_c3)) hu) (lit_at lit_c2)) hu) (lit_at lit_c1)) hu) (lit_at lit_c0)) ht
  have ha0 := select_gt_at hax hay (sub_at (lit_at lit_five (s := S2048x512)) hp) hp
  exact select_lt_at hy (lit_at lit_zero (s := S2048x512)) (sub_at (lit_at lit_ten (s := S2048x512)) ha0) ha0

/-- The polynomial's phase. -/
theorem phase_at : k0_pay15 (k0_pay93 x0) (k0_pay95 x0) (Scalar.ofBits .f32 0x00000000#32) (ix2 r c)
    = ((polyPhase (gradX Q (r.val / 512) (r.val % 512) c.val) (gradY Q (r.val / 512) (r.val % 512) c.val) : ℝ) : EReal) :=
  select_lt_at (gradX_at hF h r c) (lit_at lit_zero (s := S2048x512)) (sub_at (lit_at lit_zero (s := S2048x512)) (half_at hF h r c)) (half_at hF h r c)

/-- Its floor's bin. -/
theorem bin_at : k0_pay96 x0 (ix2 r c)
    = ((kbin (gradX Q (r.val / 512) (r.val % 512) c.val) (gradY Q (r.val / 512) (r.val % 512) c.val) : ℝ) : EReal) := by
  have hf := floor_at (phase_at hF h r c)
  have hg := select_lt_at hf (lit_at lit_zero (s := S2048x512)) (add_at hf (lit_at lit_ten (s := S2048x512))) hf
  exact select_ge_at hg (lit_at lit_ten (s := S2048x512)) (sub_at hg (lit_at lit_ten (s := S2048x512))) hg

/-- The floor's weight. -/
theorem weight_at : k0_pay97 x0 (ix2 r c)
    = ((kweight (gradX Q (r.val / 512) (r.val % 512) c.val) (gradY Q (r.val / 512) (r.val % 512) c.val) : ℝ) : EReal) :=
  select_eq_at (floor_at (phase_at hF h r c)) (phase_at hF h r c) (lit_at lit_one (s := S2048x512)) (mag_at hF h r c)

/-- What is left of one. -/
theorem rest_at : k0_pay98 x0 (ix2 r c)
    = ((1 - kweight (gradX Q (r.val / 512) (r.val % 512) c.val) (gradY Q (r.val / 512) (r.val % 512) c.val) : ℝ) : EReal) :=
  sub_at (lit_at lit_one (s := S2048x512)) (weight_at hF h r c)

/-- A bin's share of every pixel, as the kernel selects it: the bin's word `wb`, the word `wc` of the bin before. -/
theorem share_at {wb wc : BitVec 32} {b b' : ℝ} (hb : Ideal.ofBits .f32 wb = (b : EReal)) (hb' : Ideal.ofBits .f32 wc = (b' : EReal)) :
    select (cmpf .oeq (k0_pay96 x0) (broadcast S2048x512 (Scalar.ofBits .f32 wb))) (k0_pay97 x0)
      (select (cmpf .oeq (k0_pay96 x0) (broadcast S2048x512 (Scalar.ofBits .f32 wc))) (k0_pay98 x0) (k0_pay89 x0)) (ix2 r c)
    = ((pixelK (gradX Q (r.val / 512) (r.val % 512) c.val) (gradY Q (r.val / 512) (r.val % 512) c.val) b b' : ℝ) : EReal) :=
  select_eq_at (bin_at hF h r c) (lit_at hb) (weight_at hF h r c)
    (select_eq_at (bin_at hF h r c) (lit_at hb') (rest_at hF h r c) (zero_at _))

end Block

end Cert.Hog

end
-- ==== Proof.KernelBlock.lean ====
/- The kernel's result on one block of four images: the mean over eights of rows and columns of every pixel's share of a bin. -/
module

public import proofs.«01_k».proof.Proof.KernelPixel
public import Idealize.ShloMosaic.Lib.MatmulPlain

@[expose] public section

noncomputable section

namespace Cert.Hog

open Idealize.ShloMosaic Idealize.ShloMosaic.ValueIdx Idealize.ShloMosaic.WordCmp Cert.KernelIdeal Cert.KernelIdeal.Gen

/-- The mean of `f` over the cell of eight rows and eight columns at `(i, j)`. -/
def cellMean (f : ℕ → ℕ → ℝ) (i j : ℕ) : ℝ := ∑ a : Fin 8, (∑ b : Fin 8, f (8 * i + a.val) (8 * j + b.val) * (1 / 8)) * (1 / 8)

/-- The word program for the quotient by eight, rounded down. -/
def eighthWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- It is the quotient by eight on the rows' numbers. -/
theorem eighthWord_eq : ∀ r : Fin 2048, eighthWord (BitVec.ofNat 32 r.val) = BitVec.ofNat 32 (r.val / 8) := by decide +kernel

/-- The matrix that averages columns, -/
theorem avgCols_at (x0 : Vec Ideal S4x1x512x512 .f32) (k : Fin 512) (j : Fin 64) :
    k0_pay99 x0 (ix2 k j) = ((if k.val / 8 = j.val then 1 / 8 else 0 : ℝ) : EReal) := by
  have hk := k.isLt
  have hj := j.isLt
  show Scalar.select (IntOp.cmpi .eq (eighthWord (iota .tc S512x64 32 [0] _ (ix2 k j))) (iota .tc S512x64 32 [1] _ (ix2 k j)))
    (Ideal.ofBits .f32 0x3E000000#32) (Ideal.ofBits .f32 0x00000000#32) = _
  rw [iota_single_apply, iota_single_apply, select_cmpi_eq]
  show (if eighthWord (BitVec.ofNat 32 k.val) = BitVec.ofNat 32 j.val then _ else _) = _
  rw [eighthWord_eq ⟨k.val, by omega⟩, lit_eighth, lit_zero]
  by_cases q : k.val / 8 = j.val
  · rw [if_pos q, if_pos (by rw [q])]
  · rw [if_neg q, if_neg (fun e => q ((ofNat_eq_iff (by omega) (by omega)).1 e))]

/-- and the matrix that averages rows. -/
theorem avgRows_at (x0 : Vec Ideal S4x1x512x512 .f32) (k : Fin 2048) (j : Fin 256) :
    k0_pay100 x0 (ix2 k j) = ((if k.val / 8 = j.val then 1 / 8 else 0 : ℝ) : EReal) := by
  have hk := k.isLt
  have hj := j.isLt
  show Scalar.select (IntOp.cmpi .eq (eighthWord (iota .tc S2048x256 32 [0] _ (ix2 k j))) (iota .tc S2048x256 32 [1] _ (ix2 k j)))
    (Ideal.ofBits .f32 0x3E000000#32) (Ideal.ofBits .f32 0x00000000#32) = _
  rw [iota_single_apply, iota_single_apply, select_cmpi_eq]
  show (if eighthWord (BitVec.ofNat 32 k.val) = BitVec.ofNat 32 j.val then _ else _) = _
  rw [eighthWord_eq k, lit_eighth, lit_zero]
  by_cases q : k.val / 8 = j.val
  · rw [if_pos q, if_pos (by rw [q])]
  · rw [if_neg q, if_neg (fun e => q ((ofNat_eq_iff (by omega) (by omega)).1 e))]

/-- The product that contracts both operands' rows, read at an element. -/
theorem rowsProduct_at (lhs : FVec Ideal S2048x256 .f32) (rhs : FVec Ideal S2048x64 .f32) (acc : FVec Ideal S256x64 .f32) (R : Fin 256) (j : Fin 64) :
    matmul dot_S2048x256_S2048x64_S256x64_0_0_1_1_n_n none lhs rhs acc (ix2 R j)
      = acc (ix2 R j) + ∑ k : Fin 2048, lhs (ix2 k R) * rhs (ix2 k j) := by
  have hr : dot_S2048x256_S2048x64_S256x64_0_0_1_1_n_n.contr.rank = 1 := rfl
  have hs : dot_S2048x256_S2048x64_S256x64_0_0_1_1_n_n.contr.size ⟨0, by rw [hr]; exact Nat.one_pos⟩ = 2048 := rfl
  show FloatOps.matmul dot_S2048x256_S2048x64_S256x64_0_0_1_1_n_n none lhs rhs acc (ix2 R j) = _
  rw [Ideal.matmul_apply, ← Equiv.sum_comp (contrEquiv1 _ 2048 hr hs).symm]
  refine congrArg (acc (ix2 R j) + ·) (Finset.sum_congr rfl fun k _ => ?_)
  have hk := contrEquiv1_symm_val _ 2048 hr hs k
  congr 1
  · refine congrArg lhs (funext fun a => Fin.ext ?_)
    match a with
    | ⟨0, _⟩ => exact hk
    | ⟨1, _⟩ => rfl
  · refine congrArg rhs (funext fun a => Fin.ext ?_)
    match a with
    | ⟨0, _⟩ => exact hk
    | ⟨1, _⟩ => rfl

/-- The two products that average a stack of rows over its cells. -/
def pooled (x0 : Vec Ideal S4x1x512x512 .f32) (w : FVec Ideal S2048x512 .f32) : FVec Ideal S256x64 .f32 :=
  matmul dot_S2048x256_S2048x64_S256x64_0_0_1_1_n_n none (k0_pay100 x0)
    (matmul dot_S2048x512_S512x64_S2048x64_1_0_0_1_n_n none w (k0_pay99 x0) (constant S2048x64 .f32 0x00000000#32))
    (constant S256x64 .f32 0x00000000#32)

/-- They are the cells' means. -/
theorem pooled_at (x0 : Vec Ideal S4x1x512x512 .f32) {w : FVec Ideal S2048x512 .f32} {W : ℕ → ℕ → ℝ}
    (hw : ∀ (r : Fin 2048) (c : Fin 512), w (ix2 r c) = ((W r.val c.val : ℝ) : EReal)) (R : Fin 256) (j : Fin 64) :
    pooled x0 w (ix2 R j) = ((cellMean W R.val j.val : ℝ) : EReal) := by
  have inner : ∀ r : Fin 2048, matmul dot_S2048x512_S512x64_S2048x64_1_0_0_1_n_n none w (k0_pay99 x0) (constant S2048x64 .f32 0x00000000#32) (ix2 r j)
      = ((∑ b : Fin 8, W r.val (8 * j.val + b.val) * (1 / 8) : ℝ) : EReal) := fun r => by
    refine (Ideal.matmul_plain_apply (M := 2048) (K := 512) (N := 64) none w (k0_pay99 x0) (constant S2048x64 .f32 0x00000000#32) r j).trans ?_
    rw [show (constant S2048x64 .f32 0x00000000#32 : FVec Ideal S2048x64 .f32) (ix2 r j) = ((0 : ℝ) : EReal) from lit_zero]
    rw [← sum_eighths 64 (W r.val) j.val j.isLt, ← coe_sum, EReal.coe_zero, zero_add]
    refine Finset.sum_congr rfl fun k _ => ?_
    rw [hw, avgCols_at, ← EReal.coe_mul]
  unfold pooled
  rw [rowsProduct_at]
  rw [show (constant S256x64 .f32 0x00000000#32 : FVec Ideal S256x64 .f32) (ix2 R j) = ((0 : ℝ) : EReal) from lit_zero]
  unfold cellMean
  rw [← sum_eighths 256 (fun r => ∑ b : Fin 8, W r (8 * j.val + b.val) * (1 / 8)) R.val R.isLt, ← coe_sum, EReal.coe_zero, zero_add]
  refine Finset.sum_congr rfl fun k _ => ?_
  rw [inner, avgRows_at, ← EReal.coe_mul, mul_comm]

/-- A block's result as one function of the padded images. -/
def blockG (Q : ℕ → ℕ → ℕ → ℝ) (y : S4x10x64x64.Idx) : Ideal .f32 :=
  ((cellMean (fun r c => pixelK (gradX Q (y 0).val r c) (gradY Q (y 0).val r c) ((y 1).val : ℝ) ((((y 1).val + 9) % 10 : ℕ) : ℝ)) (y 2).val (y 3).val : ℝ) : EReal)

/-- A bin's share of every pixel, as the kernel selects it. -/
def share (x0 : Vec Ideal S4x1x512x512 .f32) (wb wc : BitVec 32) : FVec Ideal S2048x512 .f32 :=
  select (cmpf .oeq (k0_pay96 x0) (broadcast S2048x512 (Scalar.ofBits .f32 wb))) (k0_pay97 x0)
    (select (cmpf .oeq (k0_pay96 x0) (broadcast S2048x512 (Scalar.ofBits .f32 wc))) (k0_pay98 x0) (k0_pay89 x0))

/-- One store of the kernel's forty: image `v`, bin `b`. -/
theorem piece_eq {x0 : Vec Ideal S4x1x512x512 .f32} {Q : ℕ → ℕ → ℕ → ℝ} (hF : Framed Q) (h : Holds x0 Q) (v b o : ℕ) (ho : o = 64 * v) (hv : v < 4)
    (hb : b < 10) {wb wc : BitVec 32} {B C : ℝ} (hB : Ideal.ofBits .f32 wb = (B : EReal)) (hC : Ideal.ofBits .f32 wc = (C : EReal))
    (eB : B = (b : ℝ)) (eC : C = (((b + 9) % 10 : ℕ) : ℝ)) (hs : S256x64.Slices ![o, 0] S64x64) (hc : S64x64.ShapeCasts S1x1x64x64)
    (inb : ∀ a, (![v, b, 0, 0] : Fin 4 → ℕ) a + S1x1x64x64.size a ≤ S4x10x64x64.size a) (x : S1x1x64x64.Idx) :
    shapeCast S1x1x64x64 (extractStridedSlice S64x64 ![o, 0] (pooled x0 (share x0 wb wc)) hs) hc x
      = blockG Q ((Rect.unit (s := S4x10x64x64) ![v, b, 0, 0] S1x1x64x64.size inb).emb x) := by
  have e0 : (x 0).val = 0 := by have : (x 0).val < 1 := (x 0).isLt; omega
  have e1 : (x 1).val = 0 := by have : (x 1).val < 1 := (x 1).isLt; omega
  have h2 : (x 2).val < 64 := (x 2).isLt
  have h3 : (x 3).val < 64 := (x 3).isLt
  rw [shapeCast_apply _ hc x (ix2 (⟨(x 2).val, h2⟩ : Fin 64) (⟨(x 3).val, h3⟩ : Fin 64)) (by
    rw [Shape.rowMajor_val_four, Shape.rowMajor_val_two]
    show (x 2).val * 64 + (x 3).val = (((x 0).val * 1 + (x 1).val) * 64 + (x 2).val) * 64 + (x 3).val
    omega)]
  rw [extractStridedSlice_apply ![o, 0] _ hs _ (ix2 (⟨o + (x 2).val, by omega⟩ : Fin 256) (⟨(x 3).val, h3⟩ : Fin 64)) (by
    intro a
    match a with
    | ⟨0, _⟩ => rfl
    | ⟨1, _⟩ => show (x 3).val = 0 + (x 3).val; omega)]
  rw [pooled_at x0 (w := share x0 wb wc)
    (W := fun r c => pixelK (gradX Q (r / 512) (r % 512) c) (gradY Q (r / 512) (r % 512) c) B C)
    (fun r c => share_at hF h r c hB hC)]
  unfold blockG
  have y0 : ((Rect.unit (s := S4x10x64x64) ![v, b, 0, 0] S1x1x64x64.size inb).emb x 0).val = v := by
    show v + 1 * (x 0).val = v; omega
  have y1 : ((Rect.unit (s := S4x10x64x64) ![v, b, 0, 0] S1x1x64x64.size inb).emb x 1).val = b := by
    show b + 1 * (x 1).val = b; omega
  have y2 : ((Rect.unit (s := S4x10x64x64) ![v, b, 0, 0] S1x1x64x64.size inb).emb x 2).val = (x 2).val := by
    show 0 + 1 * (x 2).val = (x 2).val; omega
  have y3 : ((Rect.unit (s := S4x10x64x64) ![v, b, 0, 0] S1x1x64x64.size inb).emb x 3).val = (x 3).val := by
    show 0 + 1 * (x 3).val = (x 3).val; omega
  rw [y0, y1, y2, y3, eB, eC]
  refine congrArg Real.toEReal ?_
  unfold cellMean
  refine Finset.sum_congr rfl fun a _ => congrArg (· * (1 / 8 : ℝ)) (Finset.sum_congr rfl fun d _ => congrArg (· * (1 / 8 : ℝ)) ?_)
  have ha := a.isLt
  show pixelK (gradX Q ((8 * (o + (x 2).val) + a.val) / 512) ((8 * (o + (x 2).val) + a.val) % 512) _)
    (gradY Q ((8 * (o + (x 2).val) + a.val) / 512) ((8 * (o + (x 2).val) + a.val) % 512) _) _ _ = _
  rw [show (8 * (o + (x 2).val) + a.val) / 512 = v by omega, show (8 * (o + (x 2).val) + a.val) % 512 = 8 * (x 2).val + a.val by omega]

/-- A block's result is that function. -/
theorem out_eq {x0 : Vec Ideal S4x1x512x512 .f32} {Q : ℕ → ℕ → ℕ → ℝ} (hF : Framed Q) (h : Holds x0 Q) (y : S4x10x64x64.Idx) :
    out0_1 x0 y = blockG Q y := by
  unfold out0_1
  refine View.canon_apply_of_pieces (Val := Elt Ideal) (S := S4x10x64x64) (e := .f32) (blockG Q) _ ?_ y (cover0_1 _ _ _ _ _ _ _ _ _ _ _ _ _ _ _ _ _ _ _ _ _ _ _ _ _ _ _ _ _ _ _ _ _ _ _ _ _ _ _ _ y)
  dsimp only
  refine List.forall_mem_cons.2 ⟨
    (fun x => piece_eq hF h 3 9 192 rfl (by norm_num) (by norm_num) lit_nine lit_eight (by norm_num) (by norm_num) (by decide +kernel) (by decide +kernel) (by decide +kernel) x), ?_⟩
  refine List.forall_mem_cons.2 ⟨
    (fun x => piece_eq hF h 2 9 128 rfl (by norm_num) (by norm_num) lit_nine lit_eight (by norm_num) (by norm_num) (by decide +kernel) (by decide +kernel) (by decide +kernel) x), ?_⟩
  refine List.forall_mem_cons.2 ⟨
    (fun x => piece_eq hF h 1 9 64 rfl (by norm_num) (by norm_num) lit_nine lit_eight (by norm_num) (by norm_num) (by decide +kernel) (by decide +kernel) (by decide +kernel) x), ?_⟩
  refine List.forall_mem_cons.2 ⟨
    (fun x => piece_eq hF h 0 9 0 rfl (by norm_num) (by norm_num) lit_nine lit_eight (by norm_num) (by norm_num) (by decide +kernel) (by decide +kernel) (by decide +kernel) x), ?_⟩
  refine List.forall_mem_cons.2 ⟨
    (fun x => piece_eq hF h 3 8 192 rfl (by norm_num) (by norm_num) lit_eight lit_seven (by norm_num) (by norm_num) (by decide +kernel) (by decide +kernel) (by decide +kernel) x), ?_⟩
  refine List.forall_mem_cons.2 ⟨
    (fun x => piece_eq hF h 2 8 128 rfl (by norm_num) (by norm_num) lit_eight lit_seven (by norm_num) (by norm_num) (by decide +kernel) (by decide +kernel) (by decide +kernel) x), ?_⟩
  refine List.forall_mem_cons.2 ⟨
    (fun x => piece_eq hF h 1 8 64 rfl (by norm_num) (by norm_num) lit_eight lit_seven (by norm_num) (by norm_num) (by decide +kernel) (by decide +kernel) (by decide +kernel) x), ?_⟩
  refine List.forall_mem_cons.2 ⟨
    (fun x => piece_eq hF h 0 8 0 rfl (by norm_num) (by norm_num) lit_eight lit_seven (by norm_num) (by norm_num) (by decide +kernel) (by decide +kernel) (by decide +kernel) x), ?_⟩
  refine List.forall_mem_cons.2 ⟨
    (fun x => piece_eq hF h 3 7 192 rfl (by norm_num) (by norm_num) lit_seven lit_six (by norm_num) (by norm_num) (by decide +kernel) (by decide +kernel) (by decide +kernel) x), ?_⟩
  refine List.forall_mem_cons.2 ⟨
    (fun x => piece_eq hF h 2 7 128 rfl (by norm_num) (by norm_num) lit_seven lit_six (by norm_num) (by norm_num) (by decide +kernel) (by decide +kernel) (by decide +kernel) x), ?_⟩
  refine List.forall_mem_cons.2 ⟨
    (fun x => piece_eq hF h 1 7 64 rfl (by norm_num) (by norm_num) lit_seven lit_six (by norm_num) (by norm_num) (by decide +kernel) (by decide +kernel) (by decide +kernel) x), ?_⟩
  refine List.forall_mem_cons.2 ⟨
    (fun x => piece_eq hF h 0 7 0 rfl (by norm_num) (by norm_num) lit_seven lit_six (by norm_num) (by norm_num) (by decide +kernel) (by decide +kernel) (by decide +kernel) x), ?_⟩
  refine List.forall_mem_cons.2 ⟨
    (fun x => piece_eq hF h 3 6 192 rfl (by norm_num) (by norm_num) lit_six lit_five (by norm_num) (by norm_num) (by decide +kernel) (by decide +kernel) (by decide +kernel) x), ?_⟩
  refine List.forall_mem_cons.2 ⟨
    (fun x => piece_eq hF h 2 6 128 rfl (by norm_num) (by norm_num) lit_six lit_five (by norm_num) (by norm_num) (by decide +kernel) (by decide +kernel) (by decide +kernel) x), ?_⟩
  refine List.forall_mem_cons.2 ⟨
    (fun x => piece_eq hF h 1 6 64 rfl (by norm_num) (by norm_num) lit_six lit_five (by norm_num) (by norm_num) (by decide +kernel) (by decide +kernel) (by decide +kernel) x), ?_⟩
  refine List.forall_mem_cons.2 ⟨
    (fun x => piece_eq hF h 0 6 0 rfl (by norm_num) (by norm_num) lit_six lit_five (by norm_num) (by norm_num) (by decide +kernel) (by decide +kernel) (by decide +kernel) x), ?_⟩
  refine List.forall_mem_cons.2 ⟨
    (fun x => piece_eq hF h 3 5 192 rfl (by norm_num) (by norm_num) lit_five lit_four (by norm_num) (by norm_num) (by decide +kernel) (by decide +kernel) (by decide +kernel) x), ?_⟩
  refine List.forall_mem_cons.2 ⟨
    (fun x => piece_eq hF h 2 5 128 rfl (by norm_num) (by norm_num) lit_five lit_four (by norm_num) (by norm_num) (by decide +kernel) (by decide +kernel) (by decide +kernel) x), ?_⟩
  refine List.forall_mem_cons.2 ⟨
    (fun x => piece_eq hF h 1 5 64 rfl (by norm_num) (by norm_num) lit_five lit_four (by norm_num) (by norm_num) (by decide +kernel) (by decide +kernel) (by decide +kernel) x), ?_⟩
  refine List.forall_mem_cons.2 ⟨
    (fun x => piece_eq hF h 0 5 0 rfl (by norm_num) (by norm_num) lit_five lit_four (by norm_num) (by norm_num) (by decide +kernel) (by decide +kernel) (by decide +kernel) x), ?_⟩
  refine List.forall_mem_cons.2 ⟨
    (fun x => piece_eq hF h 3 4 192 rfl (by norm_num) (by norm_num) lit_four lit_three (by norm_num) (by norm_num) (by decide +kernel) (by decide +kernel) (by decide +kernel) x), ?_⟩
  refine List.forall_mem_cons.2 ⟨
    (fun x => piece_eq hF h 2 4 128 rfl (by norm_num) (by norm_num) lit_four lit_three (by norm_num) (by norm_num) (by decide +kernel) (by decide +kernel) (by decide +kernel) x), ?_⟩
  refine List.forall_mem_cons.2 ⟨
    (fun x => piece_eq hF h 1 4 64 rfl (by norm_num) (by norm_num) lit_four lit_three (by norm_num) (by norm_num) (by decide +kernel) (by decide +kernel) (by decide +kernel) x), ?_⟩
  refine List.forall_mem_cons.2 ⟨
    (fun x => piece_eq hF h 0 4 0 rfl (by norm_num) (by norm_num) lit_four lit_three (by norm_num) (by norm_num) (by decide +kernel) (by decide +kernel) (by decide +kernel) x), ?_⟩
  refine List.forall_mem_cons.2 ⟨
    (fun x => piece_eq hF h 3 3 192 rfl (by norm_num) (by norm_num) lit_three lit_two (by norm_num) (by norm_num) (by decide +kernel) (by decide +kernel) (by decide +kernel) x), ?_⟩
  refine List.forall_mem_cons.2 ⟨
    (fun x => piece_eq hF h 2 3 128 rfl (by norm_num) (by norm_num) lit_three lit_two (by norm_num) (by norm_num) (by decide +kernel) (by decide +kernel) (by decide +kernel) x), ?_⟩
  refine List.forall_mem_cons.2 ⟨
    (fun x => piece_eq hF h 1 3 64 rfl (by norm_num) (by norm_num) lit_three lit_two (by norm_num) (by norm_num) (by decide +kernel) (by decide +kernel) (by decide +kernel) x), ?_⟩
  refine List.forall_mem_cons.2 ⟨
    (fun x => piece_eq hF h 0 3 0 rfl (by norm_num) (by norm_num) lit_three lit_two (by norm_num) (by norm_num) (by decide +kernel) (by decide +kernel) (by decide +kernel) x), ?_⟩
  refine List.forall_mem_cons.2 ⟨
    (fun x => piece_eq hF h 3 2 192 rfl (by norm_num) (by norm_num) lit_two lit_one (by norm_num) (by norm_num) (by decide +kernel) (by decide +kernel) (by decide +kernel) x), ?_⟩
  refine List.forall_mem_cons.2 ⟨
    (fun x => piece_eq hF h 2 2 128 rfl (by norm_num) (by norm_num) lit_two lit_one (by norm_num) (by norm_num) (by decide +kernel) (by decide +kernel) (by decide +kernel) x), ?_⟩
  refine List.forall_mem_cons.2 ⟨
    (fun x => piece_eq hF h 1 2 64 rfl (by norm_num) (by norm_num) lit_two lit_one (by norm_num) (by norm_num) (by decide +kernel) (by decide +kernel) (by decide +kernel) x), ?_⟩
  refine List.forall_mem_cons.2 ⟨
    (fun x => piece_eq hF h 0 2 0 rfl (by norm_num) (by norm_num) lit_two lit_one (by norm_num) (by norm_num) (by decide +kernel) (by decide +kernel) (by decide +kernel) x), ?_⟩
  refine List.forall_mem_cons.2 ⟨
    (fun x => piece_eq hF h 3 1 192 rfl (by norm_num) (by norm_num) lit_one lit_zero (by norm_num) (by norm_num) (by decide +kernel) (by decide +kernel) (by decide +kernel) x), ?_⟩
  refine List.forall_mem_cons.2 ⟨
    (fun x => piece_eq hF h 2 1 128 rfl (by norm_num) (by norm_num) lit_one lit_zero (by norm_num) (by norm_num) (by decide +kernel) (by decide +kernel) (by decide +kernel) x), ?_⟩
  refine List.forall_mem_cons.2 ⟨
    (fun x => piece_eq hF h 1 1 64 rfl (by norm_num) (by norm_num) lit_one lit_zero (by norm_num) (by norm_num) (by decide +kernel) (by decide +kernel) (by decide +kernel) x), ?_⟩
  refine List.forall_mem_cons.2 ⟨
    (fun x => piece_eq hF h 0 1 0 rfl (by norm_num) (by norm_num) lit_one lit_zero (by norm_num) (by norm_num) (by decide +kernel) (by decide +kernel) (by decide +kernel) x), ?_⟩
  refine List.forall_mem_cons.2 ⟨
    (fun x => piece_eq hF h 3 0 192 rfl (by norm_num) (by norm_num) lit_zero lit_nine (by norm_num) (by norm_num) (by decide +kernel) (by decide +kernel) (by decide +kernel) x), ?_⟩
  refine List.forall_mem_cons.2 ⟨
    (fun x => piece_eq hF h 2 0 128 rfl (by norm_num) (by norm_num) lit_zero lit_nine (by norm_num) (by norm_num) (by decide +kernel) (by decide +kernel) (by decide +kernel) x), ?_⟩
  refine List.forall_mem_cons.2 ⟨
    (fun x => piece_eq hF h 1 0 64 rfl (by norm_num) (by norm_num) lit_zero lit_nine (by norm_num) (by norm_num) (by decide +kernel) (by decide +kernel) (by decide +kernel) x), ?_⟩
  refine List.forall_mem_cons.2 ⟨
    (fun x => piece_eq hF h 0 0 0 rfl (by norm_num) (by norm_num) lit_zero lit_nine (by norm_num) (by norm_num) (by decide +kernel) (by decide +kernel) (by decide +kernel) x), ?_⟩
  exact fun p hp => absurd hp (List.not_mem_nil)

end Cert.Hog

end
-- ==== Proof.KernelArray.lean ====
module

public import proofs.«01_k».proof.Proof.KernelBlock
public import proofs.«01_k».proof.Proof.Gen.KernelIdeal.Value

@[expose] public section

noncomputable section

namespace Cert.Hog

open Idealize.ShloMosaic Idealize.ShloMosaic.TcCoe Idealize.ShloMosaic.ValueIdx Idealize.SL.Sem Cert.KernelIdeal Cert.KernelIdeal.Gen
open Idealize.ShloMosaic.Pipeline (Dat)

/-- An image batch with one ring of zeros around every image. -/
def ringed (X : ℕ → ℕ → ℕ → ℝ) (n i j : ℕ) : ℝ :=
  if 1 ≤ i ∧ i ≤ 512 ∧ 1 ≤ j ∧ j ≤ 512 then X n (i - 1) (j - 1) else 0

/-- The batch `x` holds the real numbers `X`. -/
def Image (x : Vec Ideal S32x1x512x512 .f32) (X : ℕ → ℕ → ℕ → ℝ) : Prop :=
  ∀ (n : Fin 32) (i j : Fin 512), x (ix4 n (0 : Fin 1) i j) = ((X n.val i.val j.val : ℝ) : EReal)

/-- The kernel's result as one function of the ringed images. -/
def wholeG (P : ℕ → ℕ → ℕ → ℝ) (y : S32x10x64x64.Idx) : Ideal .f32 :=
  ((cellMean (fun r c => pixelK (gradX P (y 0).val r c) (gradY P (y 0).val r c) ((y 1).val : ℝ) ((((y 1).val + 9) % 10 : ℕ) : ℝ)) (y 2).val (y 3).val : ℝ) : EReal)

variable (m : (ℓ : Loc nD τ sig) → Buf (Elt Ideal) ℓ)

theorem ringed_framed (X : ℕ → ℕ → ℕ → ℝ) (o : ℕ) : Framed (fun v => ringed X (o + v)) := by
  refine ⟨fun v k => ?_, fun v k => ?_, fun v k => ?_, fun v k => ?_⟩
  all_goals
    show ringed X (o + v) _ _ = 0
    unfold ringed
    rw [if_neg (by omega)]

/-- The input window's block index at each grid point. -/
theorem in_index : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- The output window's block index at each grid point. -/
theorem out_index : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The input block of a grid point holds four consecutive images of the batch. -/
theorem block_holds {c : Dev nD} {X : ℕ → ℕ → ℕ → ℝ} (hX : Image (m ((c : Thread nD τ).loc main_arg0)) X) (t : Fin cfg0.N) :
    Holds (iblk m c 0 t) (fun v => ringed X (4 * t.val + v)) := by
  intro v i j
  have ht : t.val < 8 := t.isLt
  have hi := i.isLt
  have hj := j.isLt
  have hv := v.isLt
  have e := in_index t
  have key : (((cfg0.win 0).blk t).view.emb (ix4 v (0 : Fin 1) i j) : S32x1x512x512.Idx)
      = ix4 (⟨4 * t.val + v.val, by omega⟩ : Fin 32) (0 : Fin 1) i j := by
    funext a
    refine Fin.ext ?_
    match a with
    | ⟨0, _⟩ =>
      show win0_0.index t 0 * 4 + 1 * v.val = 4 * t.val + v.val
      rw [e.1]; omega
    | ⟨1, _⟩ =>
      show win0_0.index t 1 * 1 + 1 * 0 = 0
      rw [e.2.1]
    | ⟨2, _⟩ =>
      show win0_0.index t 2 * 512 + 1 * i.val = i.val
      rw [e.2.2.1]; omega
    | ⟨3, _⟩ =>
      show win0_0.index t 3 * 512 + 1 * j.val = j.val
      rw [e.2.2.2]; omega
  show m ((c : Thread nD τ).loc main_arg0) (((cfg0.win 0).blk t).view.emb (ix4 v (0 : Fin 1) i j)) = _
  rw [key, hX]
  show _ = ((ringed X (4 * t.val + v.val) (i.val + 1) (j.val + 1) : ℝ) : EReal)
  unfold ringed
  rw [if_pos (by omega)]
  rfl

/-- The kernel's result array, element by element. -/
theorem array_eq {c : Dev nD} {X : ℕ → ℕ → ℕ → ℝ} (hX : Image (m ((c : Thread nD τ).loc main_arg0)) X) (y : S32x10x64x64.Idx) :
    (dats m 0 c).arrAt 1 cfg0.N y = wholeG (ringed X) y := by
  refine (dats m 0 c).arrAt_forall_of_cover 1 (fun i v => v = wholeG (ringed X) i) ?_ ?_ y
  · intro t _ z
    have e := out_index t
    show (dats m 0 c).flushed 1 t z = _
    rw [Value.flushed1]
    show out0_1 (iblk m c 0 t) z = _
    rw [out_eq (ringed_framed X (4 * t.val)) (block_holds m hX t)]
    have e0 : (((cfg0.win 1).blk t).view.emb z 0).val = 4 * t.val + (z 0).val := by
      show win0_1.index t 0 * 4 + 1 * (z 0).val = _
      rw [e.1]; omega
    have e1 : (((cfg0.win 1).blk t).view.emb z 1).val = (z 1).val := by
      show win0_1.index t 1 * 10 + 1 * (z 1).val = _
      rw [e.2.1]; omega
    have e2 : (((cfg0.win 1).blk t).view.emb z 2).val = (z 2).val := by
      show win0_1.index t 2 * 64 + 1 * (z 2).val = _
      rw [e.2.2.1]; omega
    have e3 : (((cfg0.win 1).blk t).view.emb z 3).val = (z 3).val := by
      show win0_1.index t 3 * 64 + 1 * (z 3).val = _
      rw [e.2.2.2]; omega
    unfold wholeG
    rw [e0, e1, e2, e3]
    rfl
  · intro i
    have h0 : (i 0).val < 32 := (i 0).isLt
    have h1 : (i 1).val < 10 := (i 1).isLt
    have h2 : (i 2).val < 64 := (i 2).isLt
    have h3 : (i 3).val < 64 := (i 3).isLt
    let t : Fin cfg0.N := ⟨(i 0).val / 4, by show _ < 8; omega⟩
    have e := out_index t
    refine ⟨t, (by decide +kernel : ∀ t : Fin grid0.N, win0_1.flush t = true) t, ?_⟩
    show i ∈ ((View.whole main_v0).slice (win0_1.rect t)).set
    rw [View.set_slice_whole, Rect.mem_set_unit]
    intro a
    match a with
    | ⟨0, _⟩ =>
      show win0_1.index t 0 * 4 ≤ (i 0).val ∧ (i 0).val < win0_1.index t 0 * 4 + 4
      rw [e.1]; show (i 0).val / 4 * 4 ≤ _ ∧ _ < (i 0).val / 4 * 4 + 4; omega
    | ⟨1, _⟩ =>
      show win0_1.index t 1 * 10 ≤ (i 1).val ∧ (i 1).val < win0_1.index t 1 * 10 + 10
      rw [e.2.1]; omega
    | ⟨2, _⟩ =>
      show win0_1.index t 2 * 64 ≤ (i 2).val ∧ (i 2).val < win0_1.index t 2 * 64 + 64
      rw [e.2.2.1]; omega
    | ⟨3, _⟩ =>
      show win0_1.index t 3 * 64 ≤ (i 3).val ∧ (i 3).val < win0_1.index t 3 * 64 + 64
      rw [e.2.2.2]; omega

/-- The kernel's run: its result is that function of the images, and the arguments are unchanged. -/
theorem kernel_run (ρ : Dev nD → PrngReg) (X : Dev nD → ℕ → ℕ → ℕ → ℝ) (hX : ∀ c : Dev nD, Image (m ((c : Thread nD τ).loc main_arg0)) (X c)) :
    θ_run defs (onTc (τ := τ) (main (F := Ideal))) ⟨m, fun _ => 0, ρ⟩ fun r => ∀ c : Dev nD,
      (∀ y : S32x10x64x64.Idx, r.2.mem ((c : Thread nD τ).loc main_v0) y = wholeG (ringed (X c)) y)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨fun y => (congrFun (h c).1 y).trans (array_eq m (hX c) y), (h c).2⟩) (Value.run_blocks m ρ)

end Cert.Hog

end
-- ==== Proof.RefGrad.lean ====
module

public import proofs.«01_k».proof.Proof.KernelArray
public import proofs.«01_k».proof.Proof.Gen.ReferenceIdeal.Read

@[expose] public section

noncomputable section

namespace Cert.Hog

open Idealize.ShloMosaic Idealize.ShloMosaic.ValueIdx Cert.ReferenceIdeal Cert.ReferenceIdeal.Gen Cert.ReferenceIdeal.Read

/-- The weights hold the real numbers `W`. -/
def Weights (x1 : FVec Ideal S2x1x3x3 .f32) (W : ℕ → ℕ → ℕ → ℝ) : Prop :=
  ∀ (o : Fin 2) (a b : Fin 3), x1 (ix4 o (0 : Fin 1) a b) = ((W o.val a.val b.val : ℝ) : EReal)

/-- The two Sobel filters. -/
def sobel (o a b : ℕ) : ℝ :=
  if o = 0 then (if a = 1 then 2 else 1) * (1 - (b : ℝ)) else (if b = 1 then 2 else 1) * (1 - (a : ℝ))

/-- The reference's padded batch is the ringed batch. -/
theorem padded_at {x0 : FVec Ideal S32x1x512x512 .f32} {X : ℕ → ℕ → ℕ → ℝ} (hX : Image x0 X) (n : Fin 32) (i j : Fin 514) :
    val_main_v1 (F := Ideal) x0 (ix3 n i j) = ((ringed X n.val i.val j.val : ℝ) : EReal) := by
  have hi := i.isLt
  have hj := j.isLt
  unfold val_main_v1 ringed
  by_cases h : 1 ≤ i.val ∧ i.val ≤ 512 ∧ 1 ≤ j.val ∧ j.val ≤ 512
  · rw [if_pos h]
    rw [pad_apply_of_inside ![0, 1, 1] ![0, 1, 1] ![0, 0, 0] _ _ _ _ (ix3 n i j)
      (ix3 n (⟨i.val - 1, by omega⟩ : Fin 512) (⟨j.val - 1, by omega⟩ : Fin 512)) (by
      intro a
      match a with
      | ⟨0, _⟩ => show n.val = 0 + n.val * (0 + 1); omega
      | ⟨1, _⟩ => show i.val = 1 + (i.val - 1) * (0 + 1); omega
      | ⟨2, _⟩ => show j.val = 1 + (j.val - 1) * (0 + 1); omega)]
    rw [val_main_v0_apply, ← hX n ⟨i.val - 1, by omega⟩ ⟨j.val - 1, by omega⟩]
    refine congrArg x0 (funext fun a => Fin.ext ?_)
    have hn := n.isLt
    match a with
    | ⟨0, _⟩ => show ((n.val * 512 + (i.val - 1)) * 512 + (j.val - 1)) / 262144 = n.val; omega
    | ⟨1, _⟩ => rfl
    | ⟨2, _⟩ => show ((n.val * 512 + (i.val - 1)) * 512 + (j.val - 1)) / 512 % 512 = i.val - 1; omega
    | ⟨3, _⟩ => show ((n.val * 512 + (i.val - 1)) * 512 + (j.val - 1)) % 512 = j.val - 1; omega
  · rw [if_neg h]
    have hv : (val_main_call0_v0 (F := Ideal)) (Shape.Idx.first h_S_) = ((0 : ℝ) : EReal) := by
      show (((0#32).toInt : ℝ) : EReal) = ((0 : ℝ) : EReal)
      norm_num
    by_cases h1 : 1 ≤ i.val ∧ i.val ≤ 512
    · refine (pad_apply_of_not_inside (s := S32x512x512) (t := S32x514x514) ![0, 1, 1] ![0, 1, 1] ![0, 0, 0] _ _ _ _ (ix3 n i j) 2 ?_).trans hv
      show ¬(1 ≤ j.val ∧ (j.val - 1) % (0 + 1) = 0 ∧ (j.val - 1) / (0 + 1) < 512)
      omega
    · refine (pad_apply_of_not_inside (s := S32x512x512) (t := S32x514x514) ![0, 1, 1] ![0, 1, 1] ![0, 0, 0] _ _ _ _ (ix3 n i j) 1 ?_).trans hv
      show ¬(1 ≤ i.val ∧ (i.val - 1) % (0 + 1) = 0 ∧ (i.val - 1) / (0 + 1) < 512)
      omega

/-- One weighted, shifted copy of the padded batch. -/
theorem tap_at {x1 : FVec Ideal S2x1x3x3 .f32} {W : ℕ → ℕ → ℕ → ℝ} (hW : Weights x1 W) {xp : FVec Ideal S32x514x514 .f32} {P : ℕ → ℕ → ℕ → ℝ}
    (hP : ∀ (n : Fin 32) (i j : Fin 514), xp (ix3 n i j) = ((P n.val i.val j.val : ℝ) : EReal))
    (o a b : ℕ) (ho : o < 2) (ha : a < 3) (hb : b < 3) (hs : S2x1x3x3.Slices ![o, 0, a, b] S1x1x1x1) (hc : S1x1x1x1.ShapeCasts S_)
    (hbc : S_.BroadcastsInDim S32x512x512 ![]) (hp : S32x514x514.Slices ![0, a, b] S32x512x512) (n : Fin 32) (r c : Fin 512) :
    mulf (broadcastInDim S32x512x512 ![] hbc (shapeCast S_ (extractStridedSlice S1x1x1x1 ![o, 0, a, b] x1 hs) hc))
      (extractStridedSlice S32x512x512 ![0, a, b] xp hp) (ix3 n r c) = ((W o a b * P n.val (r.val + a) (c.val + b) : ℝ) : EReal) := by
  have hr := r.isLt
  have hc' := c.isLt
  refine mul_at ?_ ?_
  · rw [broadcastInDim_apply _ hbc _ (ix3 n r c) ix0 (fun a => a.elim0)]
    rw [shapeCast_apply _ hc ix0 (ix4 (0 : Fin 1) (0 : Fin 1) (0 : Fin 1) (0 : Fin 1)) (by
      have h := (S_.rowMajor ix0).isLt
      rw [Shape.rowMajor_val_four]
      have h1 : S_.numel = 1 := rfl
      show 0 = (S_.rowMajor ix0).val
      omega)]
    rw [extractStridedSlice_apply ![o, 0, a, b] x1 hs _ (ix4 (⟨o, ho⟩ : Fin 2) (0 : Fin 1) (⟨a, ha⟩ : Fin 3) (⟨b, hb⟩ : Fin 3)) (fun d => match d with
      | ⟨0, _⟩ => rfl
      | ⟨1, _⟩ => rfl
      | ⟨2, _⟩ => rfl
      | ⟨3, _⟩ => rfl)]
    exact hW _ _ _
  · rw [extractStridedSlice_apply ![0, a, b] xp hp _ (ix3 n (⟨r.val + a, by omega⟩ : Fin 514) (⟨c.val + b, by omega⟩ : Fin 514)) (fun d => match d with
      | ⟨0, _⟩ => by show n.val = 0 + n.val; omega
      | ⟨1, _⟩ => by show r.val + a = a + r.val; omega
      | ⟨2, _⟩ => by show c.val + b = b + c.val; omega)]
    exact hP _ _ _

/-- A filter's nine products summed. -/
def filtered (W : ℕ → ℕ → ℕ → ℝ) (P : ℕ → ℕ → ℕ → ℝ) (o n r c : ℕ) : ℝ :=
  0 + W o 0 0 * P n (r + 0) (c + 0) + W o 0 1 * P n (r + 0) (c + 1) + W o 0 2 * P n (r + 0) (c + 2)
    + W o 1 0 * P n (r + 1) (c + 0) + W o 1 1 * P n (r + 1) (c + 1) + W o 1 2 * P n (r + 1) (c + 2)
    + W o 2 0 * P n (r + 2) (c + 0) + W o 2 1 * P n (r + 2) (c + 1) + W o 2 2 * P n (r + 2) (c + 2)

/-- The reference's first filtered batch. -/
theorem v56_at {x0 : FVec Ideal S32x1x512x512 .f32} {X : ℕ → ℕ → ℕ → ℝ} (hX : Image x0 X) {x1 : FVec Ideal S2x1x3x3 .f32} {W : ℕ → ℕ → ℕ → ℝ}
    (hW : Weights x1 W) (n : Fin 32) (r c : Fin 512) :
    val_main_v56 (F := Ideal) x0 x1 (ix3 n r c) = ((filtered W (ringed X) 0 n.val r.val c.val : ℝ) : EReal) :=
  add_at (add_at (add_at (add_at (add_at (add_at (add_at (add_at (add_at (lit_zero)
    (tap_at hW (padded_at hX) 0 0 0 (by norm_num) (by norm_num) (by norm_num) _ _ _ _ n r c))
    (tap_at hW (padded_at hX) 0 0 1 (by norm_num) (by norm_num) (by norm_num) _ _ _ _ n r c))
    (tap_at hW (padded_at hX) 0 0 2 (by norm_num) (by norm_num) (by norm_num) _ _ _ _ n r c))
    (tap_at hW (padded_at hX) 0 1 0 (by norm_num) (by norm_num) (by norm_num) _ _ _ _ n r c))
    (tap_at hW (padded_at hX) 0 1 1 (by norm_num) (by norm_num) (by norm_num) _ _ _ _ n r c))
    (tap_at hW (padded_at hX) 0 1 2 (by norm_num) (by norm_num) (by norm_num) _ _ _ _ n r c))
    (tap_at hW (padded_at hX) 0 2 0 (by norm_num) (by norm_num) (by norm_num) _ _ _ _ n r c))
    (tap_at hW (padded_at hX) 0 2 1 (by norm_num) (by norm_num) (by norm_num) _ _ _ _ n r c))
    (tap_at hW (padded_at hX) 0 2 2 (by norm_num) (by norm_num) (by norm_num) _ _ _ _ n r c)

/-- The reference's second filtered batch. -/
theorem v111_at {x0 : FVec Ideal S32x1x512x512 .f32} {X : ℕ → ℕ → ℕ → ℝ} (hX : Image x0 X) {x1 : FVec Ideal S2x1x3x3 .f32} {W : ℕ → ℕ → ℕ → ℝ}
    (hW : Weights x1 W) (n : Fin 32) (r c : Fin 512) :
    val_main_v111 (F := Ideal) x0 x1 (ix3 n r c) = ((filtered W (ringed X) 1 n.val r.val c.val : ℝ) : EReal) :=
  add_at (add_at (add_at (add_at (add_at (add_at (add_at (add_at (add_at (lit_zero)
    (tap_at hW (padded_at hX) 1 0 0 (by norm_num) (by norm_num) (by norm_num) _ _ _ _ n r c))
    (tap_at hW (padded_at hX) 1 0 1 (by norm_num) (by norm_num) (by norm_num) _ _ _ _ n r c))
    (tap_at hW (padded_at hX) 1 0 2 (by norm_num) (by norm_num) (by norm_num) _ _ _ _ n r c))
    (tap_at hW (padded_at hX) 1 1 0 (by norm_num) (by norm_num) (by norm_num) _ _ _ _ n r c))
    (tap_at hW (padded_at hX) 1 1 1 (by norm_num) (by norm_num) (by norm_num) _ _ _ _ n r c))
    (tap_at hW (padded_at hX) 1 1 2 (by norm_num) (by norm_num) (by norm_num) _ _ _ _ n r c))
    (tap_at hW (padded_at hX) 1 2 0 (by norm_num) (by norm_num) (by norm_num) _ _ _ _ n r c))
    (tap_at hW (padded_at hX) 1 2 1 (by norm_num) (by norm_num) (by norm_num) _ _ _ _ n r c))
    (tap_at hW (padded_at hX) 1 2 2 (by norm_num) (by norm_num) (by norm_num) _ _ _ _ n r c)

theorem filtered_sobel_zero (P : ℕ → ℕ → ℕ → ℝ) (n r c : ℕ) : filtered sobel P 0 n r c = gradX P n r c := by
  unfold filtered gradX sobel
  norm_num
  ring

theorem filtered_sobel_one (P : ℕ → ℕ → ℕ → ℝ) (n r c : ℕ) : filtered sobel P 1 n r c = gradY P n r c := by
  unfold filtered gradY sobel
  norm_num
  ring

/-- With Sobel weights the first filtered batch is the horizontal gradient. -/
theorem horizontal_at {x0 : FVec Ideal S32x1x512x512 .f32} {X : ℕ → ℕ → ℕ → ℝ} (hX : Image x0 X) {x1 : FVec Ideal S2x1x3x3 .f32}
    (hW : Weights x1 sobel) (n : Fin 32) (r c : Fin 512) :
    val_main_v56 (F := Ideal) x0 x1 (ix3 n r c) = ((gradX (ringed X) n.val r.val c.val : ℝ) : EReal) := by
  rw [v56_at hX hW, filtered_sobel_zero]

/-- With Sobel weights the second filtered batch is the vertical gradient. -/
theorem vertical_at {x0 : FVec Ideal S32x1x512x512 .f32} {X : ℕ → ℕ → ℕ → ℝ} (hX : Image x0 X) {x1 : FVec Ideal S2x1x3x3 .f32}
    (hW : Weights x1 sobel) (n : Fin 32) (r c : Fin 512) :
    val_main_v111 (F := Ideal) x0 x1 (ix3 n r c) = ((gradY (ringed X) n.val r.val c.val : ℝ) : EReal) := by
  rw [v111_at hX hW, filtered_sobel_one]

end Cert.Hog

end
-- ==== Proof.Precondition.lean ====
module

public import proofs.«01_k».proof.Proof.RefGrad
public import proofs.«01_k».proof.Proof.Gen.Pre_finite_image_sobel_weight
public import Idealize.ShloMosaic.Lib.WordCmp

@[expose] public section

noncomputable section

namespace Cert.Hog

open Idealize.ShloMosaic Idealize.ShloMosaic.ValueIdx Cert.Pre_finite_image_sobel_weight

/-! ## The precondition, read back -/

theorem lit_infinity : Ideal.ofBits .f32 0x7F800000#32 = ⊤ := by
  simp [Ideal.ofBits, Ideal.ieee]

/-- An image of finite elements holds real numbers. -/
theorem image_of_finite {x0 : FVec Ideal S32x1x512x512 .f32} {x1 : FVec Ideal S2x1x3x3 .f32} (h : (fn (F := Ideal) x0 x1).1 = fun _ => 1#1) :
    ∃ X : ℕ → ℕ → ℕ → ℝ, Image x0 X := by
  refine ⟨fun n i j => if c : n < 32 ∧ i < 512 ∧ j < 512 then
    (x0 (ix4 (⟨n, c.1⟩ : Fin 32) (0 : Fin 1) (⟨i, c.2.1⟩ : Fin 512) (⟨j, c.2.2⟩ : Fin 512)) : EReal).toReal else 0, fun n i j => ?_⟩
  show (x0 (ix4 n (0 : Fin 1) i j) : EReal) = ((dite _ _ _ : ℝ) : EReal)
  rw [dif_pos ⟨n.isLt, i.isLt, j.isLt⟩]
  have e := congrFun h (ix4 n (0 : Fin 1) i j)
  have e' : BitVec.ofBool (decide (max (x0 (ix4 n (0 : Fin 1) i j) : EReal) (-(x0 (ix4 n (0 : Fin 1) i j) : EReal)) < Ideal.ofBits .f32 0x7F800000#32)) = 1#1 := e
  rw [WordCmp.ofBool_decide_eq_one_iff, lit_infinity, max_lt_iff] at e'
  refine (EReal.coe_toReal e'.1.ne fun hb => ?_).symm
  have := e'.2
  rw [hb] at this
  exact absurd this (by simp)

/-- The two filters the precondition builds, side by side. -/
theorem filters_at (x0 : FVec Ideal S32x1x512x512 .f32) (x1 : FVec Ideal S2x1x3x3 .f32) (h : (fn (F := Ideal) x0 x1).2 = fun _ => 1#1)
    (a b : Fin 3) :
    x1 (ix4 (0 : Fin 2) (0 : Fin 1) a b) = Ideal.ofBits .f32 (lit0 (S3x3.rowMajor (ix2 a b)))
      ∧ x1 (ix4 (1 : Fin 2) (0 : Fin 1) a b) = Ideal.ofBits .f32 (lit0 (S3x3.rowMajor (ix2 b a))) := by
  have key : ∀ (o : Fin 2), (x1 (ix4 o (0 : Fin 1) a b) : EReal)
      = broadcastInDim S2x1x3x3 ![0, 2, 3] Gen.bcast_S2x3x3_S2x1x3x3_0_2_3
          (concatenate S2x3x3 0 [⟨S1x3x3, broadcastInDim S1x3x3 ![1, 2] Gen.bcast_S3x3_S1x3x3_1_2 (fun i => Ideal.ofBits .f32 (lit0 (S3x3.rowMajor i)))⟩,
            ⟨S1x3x3, broadcastInDim S1x3x3 ![1, 2] Gen.bcast_S3x3_S1x3x3_1_2 (transpose S3x3 [1, 0] (fun i => Ideal.ofBits .f32 (lit0 (S3x3.rowMajor i))) Gen.transposes_S3x3_S3x3_1_0)⟩]
            Gen.concatenates_S1x3x3_S1x3x3_S2x3x3_d0) (ix4 o (0 : Fin 1) a b) := fun o =>
    (WordCmp.ofBool_decide_eq_one_iff _).1 (congrFun h (ix4 o (0 : Fin 1) a b))
  constructor
  · refine (key 0).trans ?_
    rw [broadcastInDim_apply _ _ _ (ix4 (0 : Fin 2) (0 : Fin 1) a b) (ix3 (0 : Fin 2) a b) (fun q => by
      match q with
      | ⟨0, _⟩ => rfl
      | ⟨1, _⟩ => rfl
      | ⟨2, _⟩ => rfl)]
    rw [concatenate_pair_apply_left (t := S2x3x3) (s₁ := S1x3x3) (s₂ := S1x3x3) 0 _ _ _ (ix3 (0 : Fin 2) a b) (by decide +kernel) (ix3 (0 : Fin 1) a b)
      (fun q => by
      match q with
      | ⟨0, _⟩ => rfl
      | ⟨1, _⟩ => rfl
      | ⟨2, _⟩ => rfl)]
    rw [broadcastInDim_apply _ _ _ (ix3 (0 : Fin 1) a b) (ix2 a b) (fun q => by
      match q with
      | ⟨0, _⟩ => rfl
      | ⟨1, _⟩ => rfl)]
  · refine (key 1).trans ?_
    rw [broadcastInDim_apply _ _ _ (ix4 (1 : Fin 2) (0 : Fin 1) a b) (ix3 (1 : Fin 2) a b) (fun q => by
      match q with
      | ⟨0, _⟩ => rfl
      | ⟨1, _⟩ => rfl
      | ⟨2, _⟩ => rfl)]
    rw [concatenate_pair_apply_right (t := S2x3x3) (s₁ := S1x3x3) (s₂ := S1x3x3) 0 _ _ _ (ix3 (1 : Fin 2) a b) rfl rfl (ix3 (0 : Fin 1) a b)
      (fun q => match q with
        | ⟨0, _⟩ => fun h => absurd rfl h
        | ⟨1, _⟩ => fun _ => rfl
        | ⟨2, _⟩ => fun _ => rfl) rfl]
    rw [broadcastInDim_apply _ _ _ (ix3 (0 : Fin 1) a b) (ix2 a b) (fun q => by
      match q with
      | ⟨0, _⟩ => rfl
      | ⟨1, _⟩ => rfl)]
    show Ideal.ofBits .f32 (lit0 (S3x3.rowMajor _)) = _
    refine congrArg (fun k => Ideal.ofBits .f32 (lit0 (S3x3.rowMajor k))) (funext fun q => Fin.ext ?_)
    match q with
    | ⟨0, _⟩ => rfl
    | ⟨1, _⟩ => rfl

/-- The table of filter words, at one of its nine places. -/
theorem table_at (a b : Fin 3) : Ideal.ofBits .f32 (lit0 (S3x3.rowMajor (ix2 a b))) = ((sobel 0 a.val b.val : ℝ) : EReal) := by
  have e : S3x3.rowMajor (ix2 a b) = ⟨a.val * 3 + b.val, by have := a.isLt; have := b.isLt; show _ < 9; omega⟩ :=
    Fin.ext (Shape.rowMajor_val_two _)
  rw [e]
  fin_cases a <;> fin_cases b
  · exact lit_one.trans (by norm_num [sobel])
  · exact lit_zero.trans (by norm_num [sobel])
  · exact lit_negOne.trans (by norm_num [sobel])
  · exact lit_two.trans (by norm_num [sobel])
  · exact lit_zero.trans (by norm_num [sobel])
  · exact lit_negTwo.trans (by norm_num [sobel])
  · exact lit_one.trans (by norm_num [sobel])
  · exact lit_zero.trans (by norm_num [sobel])
  · exact lit_negOne.trans (by norm_num [sobel])

theorem sobel_transposed (a b : ℕ) : sobel 0 b a = sobel 1 a b := by
  unfold sobel
  norm_num

/-- The weights the precondition admits are the two Sobel filters. -/
theorem weights_of_sobel {x0 : FVec Ideal S32x1x512x512 .f32} {x1 : FVec Ideal S2x1x3x3 .f32} (h : (fn (F := Ideal) x0 x1).2 = fun _ => 1#1) :
    Weights x1 sobel := fun o a b => by
  match o with
  | ⟨0, _⟩ => exact (filters_at x0 x1 h a b).1.trans (table_at a b)
  | ⟨1, _⟩ => exact (filters_at x0 x1 h a b).2.trans ((table_at b a).trans (congrArg Real.toEReal (sobel_transposed a.val b.val)))

end Cert.Hog

end
-- ==== Proof.Mask.lean ====
module

public import proofs.«01_k».proof.Proof.RefGrad
public import proofs.«01_k».proof.Proof.Gen.On_clear_of_bin_edges
public import Idealize.ShloMosaic.Lib.WordCmp
public import Idealize.ShloMosaic.Lib.ReduceAll

@[expose] public section

noncomputable section

namespace Cert.Hog

open Idealize.ShloMosaic Idealize.ShloMosaic.ValueIdx Cert.On_clear_of_bin_edges

/-! ## The mask, read back -/

section Bits
variable {s : Shape} {x y : FVec Ideal s .f32} {i : s.Idx} {a b : ℝ}

theorem ole_at (hx : x i = (a : EReal)) (hy : y i = (b : EReal)) : cmpf .ole x y i = 1#1 ↔ a ≤ b := by
  show BitVec.ofBool (decide ((x i : EReal) ≤ y i)) = 1#1 ↔ _
  rw [WordCmp.ofBool_decide_eq_one_iff, hx, hy, EReal.coe_le_coe_iff]

theorem oge_at (hx : x i = (a : EReal)) (hy : y i = (b : EReal)) : cmpf .oge x y i = 1#1 ↔ b ≤ a := by
  show BitVec.ofBool (decide ((y i : EReal) ≤ x i)) = 1#1 ↔ _
  rw [WordCmp.ofBool_decide_eq_one_iff, hx, hy, EReal.coe_le_coe_iff]

end Bits

/-- The mask ends in a test of the two gradients' sizes. -/
theorem mask_eq (x0 : FVec Ideal S32x1x512x512 .f32) (x1 : FVec Ideal S2x1x3x3 .f32) :
    fn (F := Ideal) x0 x1
      = fn_part5 (F := Ideal)
          (maximumf (Host.absf (ReferenceIdeal.Read.val_main_v56 (F := Ideal) x0 x1)) (Host.absf (ReferenceIdeal.Read.val_main_v111 (F := Ideal) x0 x1)))
          (Host.absf (ReferenceIdeal.Read.val_main_v56 (F := Ideal) x0 x1)) (Host.absf (ReferenceIdeal.Read.val_main_v111 (F := Ideal) x0 x1)) := rfl

/-- The bit of one pixel. -/
def pixelBits (big u v : FVec Ideal S32x512x512 .f32) : IVec S32x512x512 1 :=
  andi
    (ori (cmpf .ole (minimumf u v) (mulf (broadcastInDim S32x512x512 ![] Gen.bcast_S_S32x512x512 (constant (F := Ideal) S_ .f32 0x3EA65BC8#32)) big))
      (cmpf .oge (minimumf u v) (mulf (broadcastInDim S32x512x512 ![] Gen.bcast_S_S32x512x512 (constant (F := Ideal) S_ .f32 0x3EA65BEA#32)) big)))
    (ori (cmpf .ole (minimumf u v) (mulf (broadcastInDim S32x512x512 ![] Gen.bcast_S_S32x512x512 (constant (F := Ideal) S_ .f32 0x3F39FEA8#32)) big))
      (cmpf .oge (minimumf u v) (mulf (broadcastInDim S32x512x512 ![] Gen.bcast_S_S32x512x512 (constant (F := Ideal) S_ .f32 0x3F39FEB9#32)) big)))

/-- A pixel whose bit is set has a gradient clear of the bin edges. -/
theorem clear_of_bit {u v : FVec Ideal S32x512x512 .f32} {i : S32x512x512.Idx} {gx gy : ℝ} (hu : u i = ((|gx| : ℝ) : EReal))
    (hv : v i = ((|gy| : ℝ) : EReal)) (h : pixelBits (maximumf u v) u v i = 1#1) : Clear gx gy := by
  have hm := min_at hu hv
  have hM := max_at hu hv
  have h' : IntOp.andi _ _ = 1#1 := h
  obtain ⟨h1, h2⟩ := IntOp.andi_eq_one.1 h'
  have h1' : IntOp.ori _ _ = 1#1 := h1
  have h2' : IntOp.ori _ _ = 1#1 := h2
  refine ⟨?_, ?_⟩
  · rcases IntOp.ori_eq_one.1 h1' with e | e
    · exact Or.inl ((ole_at hm (mul_at lit_lo1 hM)).1 e)
    · exact Or.inr ((oge_at hm (mul_at lit_hi1 hM)).1 e)
  · rcases IntOp.ori_eq_one.1 h2' with e | e
    · exact Or.inl ((ole_at hm (mul_at lit_lo2 hM)).1 e)
    · exact Or.inr ((oge_at hm (mul_at lit_hi2 hM)).1 e)

/-- A cell whose bit is set has the bits of its 64 pixels set. -/
theorem bit_of_cell {big u v : FVec Ideal S32x512x512 .f32} {n : Fin 32} {b : Fin 10} {i j : Fin 64}
    (h : fn_part5 (F := Ideal) big u v (ix4 n b i j) = 1#1) (a d : Fin 8) :
    pixelBits big u v (ix3 n (⟨8 * i.val + a.val, by have := a.isLt; have := i.isLt; omega⟩ : Fin 512)
      (⟨8 * j.val + d.val, by have := d.isLt; have := j.isLt; omega⟩ : Fin 512)) = 1#1 := by
  have h' : broadcastInDim S32x10x64x64 ![0, 1, 2, 3] Gen.bcast_S32x1x64x64_S32x10x64x64_0_1_2_3
      (broadcastInDim S32x1x64x64 ![0, 2, 3] Gen.bcast_S32x64x64_S32x1x64x64_0_2_3
        (Host.reduce IntOp.andi (shapeCast S32x64x8x64x8 (pixelBits big u v) Gen.shapeCasts_S32x512x512_S32x64x8x64x8) (constantI S_ 1 1#1)
          Gen.reducesTo_S32x64x8x64x8_S32x64x64_d2_4 Gen.h_S_)) (ix4 n b i j) = 1#1 := h
  rw [broadcastInDim_apply _ _ _ (ix4 n b i j) (ix4 n (0 : Fin 1) i j) (fun q => by
    match q with
    | ⟨0, _⟩ => rfl
    | ⟨1, _⟩ => rfl
    | ⟨2, _⟩ => rfl
    | ⟨3, _⟩ => rfl)] at h'
  rw [broadcastInDim_apply _ _ _ (ix4 n (0 : Fin 1) i j) (ix3 n i j) (fun q => by
    match q with
    | ⟨0, _⟩ => rfl
    | ⟨1, _⟩ => rfl
    | ⟨2, _⟩ => rfl)] at h'
  have e := Host.reduce_andi_eq_one _ _ _ _ _ h' (ix5 n i a j d) (funext fun q => by
    match q with
    | ⟨0, _⟩ => rfl
    | ⟨1, _⟩ => rfl
    | ⟨2, _⟩ => rfl)
  rw [shapeCast_apply _ _ (ix5 n i a j d) (ix3 n (⟨8 * i.val + a.val, by have := a.isLt; have := i.isLt; omega⟩ : Fin 512)
      (⟨8 * j.val + d.val, by have := d.isLt; have := j.isLt; omega⟩ : Fin 512)) (by
    rw [Shape.rowMajor_val_three, Shape.rowMajor_val_five]
    show (n.val * 512 + (8 * i.val + a.val)) * 512 + (8 * j.val + d.val) = (((n.val * 64 + i.val) * 8 + a.val) * 64 + j.val) * 8 + d.val
    ring)] at e
  exact e

/-- In a cell the mask selects, every pixel's gradient is clear of the bin edges. -/
theorem clear_of_mask {x0 : FVec Ideal S32x1x512x512 .f32} {X : ℕ → ℕ → ℕ → ℝ} (hX : Image x0 X) {x1 : FVec Ideal S2x1x3x3 .f32}
    (hW : Weights x1 sobel) {n : Fin 32} {b : Fin 10} {i j : Fin 64} (h : fn (F := Ideal) x0 x1 (ix4 n b i j) = 1#1) (a d : Fin 8) :
    Clear (gradX (ringed X) n.val (8 * i.val + a.val) (8 * j.val + d.val)) (gradY (ringed X) n.val (8 * i.val + a.val) (8 * j.val + d.val)) := by
  rw [mask_eq] at h
  exact clear_of_bit (abs_at (horizontal_at hX hW n _ _)) (abs_at (vertical_at hX hW n _ _)) (bit_of_cell h a d)

end Cert.Hog

end
-- ==== Proof.RefPhase.lean ====
module

public import proofs.«01_k».proof.Proof.RefGrad

@[expose] public section

noncomputable section

namespace Cert.Hog

open Idealize.ShloMosaic Idealize.ShloMosaic.ValueIdx Cert.ReferenceIdeal Cert.ReferenceIdeal.Gen Cert.ReferenceIdeal.Read

/-! ## The angle and the bins' words -/

theorem atan2_bounds (y x : ℝ) : -Real.pi ≤ atan2 y x ∧ atan2 y x ≤ Real.pi := by
  have hpi := Real.pi_pos
  have h1 := Real.neg_pi_div_two_lt_arctan (y / x)
  have h2 := Real.arctan_lt_pi_div_two (y / x)
  unfold atan2
  split_ifs with a b c d e
  · constructor <;> linarith
  · have h3 : Real.arctan (y / x) ≤ 0 := by
      have := Real.arctan_mono (div_nonpos_of_nonneg_of_nonpos c b.le)
      rwa [Real.arctan_zero] at this
    constructor <;> linarith
  · have h3 : 0 ≤ Real.arctan (y / x) := by
      have := Real.arctan_mono (div_nonneg_of_nonpos (not_le.1 c).le b.le)
      rwa [Real.arctan_zero] at this
    constructor <;> linarith
  · constructor <;> linarith
  · constructor <;> linarith
  · constructor <;> linarith

theorem truePhase_bounds (gx gy : ℝ) : -10 ≤ truePhase gx gy ∧ truePhase gx gy ≤ 10 := by
  have hpi := Real.pi_pos
  have h := atan2_bounds gx gy
  have h1 : -1 ≤ atan2 gx gy / Real.pi := by rw [le_div_iff₀ hpi]; linarith
  have h2 : atan2 gx gy / Real.pi ≤ 1 := by rw [div_le_iff₀ hpi]; linarith
  unfold truePhase
  constructor <;> linarith

theorem atan2_half_turn : atan2 0 (-1) = Real.pi := by
  unfold atan2
  norm_num

theorem hostAtan2_at {y x : Ideal .f32} {a b : ℝ} (hy : y = (a : EReal)) (hx : x = (b : EReal)) :
    FloatOps.hostAtan2 y x = ((atan2 a b : ℝ) : EReal) := by
  subst hy hx
  rfl

/-- The word of a real integer between -10 and 10. -/
theorem fptosi_at {x : Ideal .f32} {z : ℤ} (hx : x = ((z : ℝ) : EReal)) (h1 : -10 ≤ z) (h2 : z ≤ 10) :
    FloatOps.fptosi 32 x = BitVec.ofInt 32 z := by
  subst hx
  show BitVec.ofInt 32 (Ideal.toIntClamped _ _ _) = _
  rw [Ideal.toIntClamped_coe]
  refine congrArg (BitVec.ofInt 32) ?_
  rw [Int.floor_intCast, Int.ceil_intCast, ite_self]
  norm_num
  omega

/-- The reference's remainder by ten, and its wrapping of a negative index, at one word. -/
def binWord (k : BitVec 32) : BitVec 32 :=
  let t := Scalar.select (IntOp.cmpi .eq 10#32 0#32) 1#32 10#32
  let r := IntOp.remsi .host k t
  let w := Scalar.select (IntOp.andi (IntOp.cmpi .ne (IntOp.cmpi .slt r 0#32) (IntOp.cmpi .slt t 0#32)) (IntOp.cmpi .ne r 0#32)) (IntOp.addi r t) r
  Scalar.select (IntOp.cmpi .slt w 0#32) (IntOp.addi w 10#32) w

theorem binWord_nat : ∀ k : Fin 21, binWord (BitVec.ofInt 32 ((k.val : ℤ) - 10)) = BitVec.ofNat 32 ((((k.val : ℤ) - 10) % 10).toNat) := by
  decide +kernel

theorem binWord_eq (z : ℤ) (h1 : -10 ≤ z) (h2 : z ≤ 10) : binWord (BitVec.ofInt 32 z) = BitVec.ofNat 32 ((z % 10).toNat) := by
  have h := binWord_nat ⟨(z + 10).toNat, by omega⟩
  have e : (((z + 10).toNat : ℕ) : ℤ) - 10 = z := by omega
  simp only [e] at h
  exact h

/-! ## The reference's arrays at a pixel -/

variable {x0 : FVec Ideal S32x1x512x512 .f32} {X : ℕ → ℕ → ℕ → ℝ} {x1 : FVec Ideal S2x1x3x3 .f32}

theorem channel_zero_at (hX : Image x0 X) (hW : Weights x1 sobel) (n : Fin 32) (r c : Fin 512) :
    val_main_v114 (F := Ideal) x0 x1 (ix4 n (0 : Fin 2) r c) = ((gradX (ringed X) n.val r.val c.val : ℝ) : EReal) := by
  unfold val_main_v114
  rw [concatenate_pair_apply_left (t := S32x2x512x512) (s₁ := S32x1x512x512) (s₂ := S32x1x512x512) 1 _ _ _ _ rfl (ix4 n (0 : Fin 1) r c) (fun b => match b with
    | ⟨0, _⟩ => rfl | ⟨1, _⟩ => rfl | ⟨2, _⟩ => rfl | ⟨3, _⟩ => rfl)]
  rw [val_main_v112_apply, ← horizontal_at hX hW]
  exact congrArg (val_main_v56 (F := Ideal) x0 x1) (funext fun a => match a with | ⟨0, _⟩ => rfl | ⟨1, _⟩ => rfl | ⟨2, _⟩ => rfl)

theorem channel_one_at (hX : Image x0 X) (hW : Weights x1 sobel) (n : Fin 32) (r c : Fin 512) :
    val_main_v114 (F := Ideal) x0 x1 (ix4 n (1 : Fin 2) r c) = ((gradY (ringed X) n.val r.val c.val : ℝ) : EReal) := by
  unfold val_main_v114
  rw [concatenate_pair_apply_right (t := S32x2x512x512) (s₁ := S32x1x512x512) (s₂ := S32x1x512x512) 1 _ _ _ _ rfl rfl (ix4 n (0 : Fin 1) r c) (fun b => match b with
    | ⟨0, _⟩ => fun _ => rfl | ⟨1, _⟩ => fun h => absurd rfl h | ⟨2, _⟩ => fun _ => rfl | ⟨3, _⟩ => fun _ => rfl) rfl]
  rw [val_main_v113_apply, ← vertical_at hX hW]
  exact congrArg (val_main_v111 (F := Ideal) x0 x1) (funext fun a => match a with | ⟨0, _⟩ => rfl | ⟨1, _⟩ => rfl | ⟨2, _⟩ => rfl)

theorem magnitude_at (hX : Image x0 X) (hW : Weights x1 sobel) (n : Fin 32) (r c : Fin 512) :
    val_main_v115 (F := Ideal) x0 x1 (ix3 n r c)
      = ((mag (gradX (ringed X) n.val r.val c.val) (gradY (ringed X) n.val r.val c.val) : ℝ) : EReal) := by
  rw [val_main_v115_apply]
  show Ideal.sqrt _ = _
  rw [val_main_call1_v1_apply, Fin.sum_univ_two]
  have i0 : idx_main_call1_v1 (ix3 n r c) 0 = ix4 n (0 : Fin 2) r c :=
    funext fun a => match a with | ⟨0, _⟩ => rfl | ⟨1, _⟩ => rfl | ⟨2, _⟩ => rfl | ⟨3, _⟩ => rfl
  have i1 : idx_main_call1_v1 (ix3 n r c) 1 = ix4 n (1 : Fin 2) r c :=
    funext fun a => match a with | ⟨0, _⟩ => rfl | ⟨1, _⟩ => rfl | ⟨2, _⟩ => rfl | ⟨3, _⟩ => rfl
  rw [i0, i1]
  have e0 : val_main_call1_v0 (F := Ideal) x0 x1 (ix4 n (0 : Fin 2) r c) = _ := mul_at (channel_zero_at hX hW n r c) (channel_zero_at hX hW n r c)
  have e1 : val_main_call1_v0 (F := Ideal) x0 x1 (ix4 n (1 : Fin 2) r c) = _ := mul_at (channel_one_at hX hW n r c) (channel_one_at hX hW n r c)
  have e : (val_main_call1_cst (F := Ideal)) (Shape.Idx.first h_S_) = ((0 : ℝ) : EReal) := lit_zero
  rw [e0, e1, e, ← EReal.coe_add, ← EReal.coe_add, zero_add, Ideal.sqrt_coe, if_neg (not_lt.2 (add_nonneg (mul_self_nonneg _) (mul_self_nonneg _)))]
  rfl

theorem turn_at (hX : Image x0 X) (hW : Weights x1 sobel) (n : Fin 32) (r c : Fin 512) :
    val_main_v125 (F := Ideal) x0 x1 (ix3 n r c)
      = ((truePhase (gradX (ringed X) n.val r.val c.val) (gradY (ringed X) n.val r.val c.val) : ℝ) : EReal) := by
  have hn := n.isLt
  have hr := r.isLt
  have hc := c.isLt
  have a0 : val_main_v117 (F := Ideal) x0 x1 (ix3 n r c) = ((gradX (ringed X) n.val r.val c.val : ℝ) : EReal) := by
    rw [val_main_v117_apply, val_main_v116_apply, ← channel_zero_at hX hW]
    refine congrArg (val_main_v114 (F := Ideal) x0 x1) (funext fun a => Fin.ext ?_)
    match a with
    | ⟨0, _⟩ => show ((n.val * 512 + r.val) * 512 + c.val) / 262144 = n.val; omega
    | ⟨1, _⟩ => rfl
    | ⟨2, _⟩ => show ((n.val * 512 + r.val) * 512 + c.val) / 512 % 512 = r.val; omega
    | ⟨3, _⟩ => show ((n.val * 512 + r.val) * 512 + c.val) % 512 = c.val; omega
  have a1 : val_main_v119 (F := Ideal) x0 x1 (ix3 n r c) = ((gradY (ringed X) n.val r.val c.val : ℝ) : EReal) := by
    rw [val_main_v119_apply, val_main_v118_apply, ← channel_one_at hX hW]
    refine congrArg (val_main_v114 (F := Ideal) x0 x1) (funext fun a => Fin.ext ?_)
    match a with
    | ⟨0, _⟩ => show ((n.val * 512 + r.val) * 512 + c.val) / 262144 = n.val; omega
    | ⟨1, _⟩ => rfl
    | ⟨2, _⟩ => show ((n.val * 512 + r.val) * 512 + c.val) / 512 % 512 = r.val; omega
    | ⟨3, _⟩ => show ((n.val * 512 + r.val) * 512 + c.val) % 512 = c.val; omega
  have a2 : val_main_v120 (F := Ideal) x0 x1 (ix3 n r c) = _ := hostAtan2_at a0 a1
  have a3 : val_main_v122 (F := Ideal) (ix3 n r c) = ((Real.pi : ℝ) : EReal) := by
    rw [val_main_v122_apply, val_main_v121_apply, ← atan2_half_turn]
    exact hostAtan2_at lit_zero lit_negOne
  have a4 : val_main_v123 (F := Ideal) x0 x1 (ix3 n r c) = _ := div_at (x := val_main_v120 (F := Ideal) x0 x1) (y := val_main_v122 (F := Ideal)) a2 a3 Real.pi_pos.ne'
  exact mul_at (x := val_main_v123 (F := Ideal) x0 x1) (y := val_main_v124 (F := Ideal)) a4 lit_ten

/-- The bin below a pixel's phase, as the reference's index word. -/
theorem floor_word_at (hX : Image x0 X) (hW : Weights x1 sobel) (n : Fin 32) (r c : Fin 512) :
    val_main_v148 (F := Ideal) x0 x1 (ix3 n r c)
      = BitVec.ofNat 32 ((⌊truePhase (gradX (ringed X) n.val r.val c.val) (gradY (ringed X) n.val r.val c.val)⌋ % 10).toNat) := by
  have hb := truePhase_bounds (gradX (ringed X) n.val r.val c.val) (gradY (ringed X) n.val r.val c.val)
  have l1 : (-10 : ℤ) ≤ ⌊truePhase (gradX (ringed X) n.val r.val c.val) (gradY (ringed X) n.val r.val c.val)⌋ := Int.le_floor.2 (by exact_mod_cast hb.1)
  have l2 : ⌊truePhase (gradX (ringed X) n.val r.val c.val) (gradY (ringed X) n.val r.val c.val)⌋ ≤ 10 := by
    have := (Int.floor_le (truePhase (gradX (ringed X) n.val r.val c.val) (gradY (ringed X) n.val r.val c.val))).trans hb.2
    exact_mod_cast this
  rw [← binWord_eq _ l1 l2]
  have hf : val_main_v127 (F := Ideal) x0 x1 (ix3 n r c) = _ := fptosi_at (floor_at (turn_at hX hW n r c)) l1 l2
  rw [← hf]
  rfl

/-- The bin above a pixel's phase, as the reference's index word. -/
theorem ceil_word_at (hX : Image x0 X) (hW : Weights x1 sobel) (n : Fin 32) (r c : Fin 512) :
    val_main_v179 (F := Ideal) x0 x1 (ix3 n r c)
      = BitVec.ofNat 32 ((⌈truePhase (gradX (ringed X) n.val r.val c.val) (gradY (ringed X) n.val r.val c.val)⌉ % 10).toNat) := by
  have hb := truePhase_bounds (gradX (ringed X) n.val r.val c.val) (gradY (ringed X) n.val r.val c.val)
  have l2 : ⌈truePhase (gradX (ringed X) n.val r.val c.val) (gradY (ringed X) n.val r.val c.val)⌉ ≤ 10 := Int.ceil_le.2 (by exact_mod_cast hb.2)
  have l1 : (-10 : ℤ) ≤ ⌈truePhase (gradX (ringed X) n.val r.val c.val) (gradY (ringed X) n.val r.val c.val)⌉ := by
    have := hb.1.trans (Int.le_ceil (truePhase (gradX (ringed X) n.val r.val c.val) (gradY (ringed X) n.val r.val c.val)))
    exact_mod_cast this
  rw [← binWord_eq _ l1 l2]
  have hc : val_main_v129 (F := Ideal) x0 x1 (ix3 n r c)
      = (((⌈truePhase (gradX (ringed X) n.val r.val c.val) (gradY (ringed X) n.val r.val c.val)⌉ : ℤ) : ℝ) : EReal) := by
    show Ideal.liftRound Int.ceil (val_main_v125 (F := Ideal) x0 x1 (ix3 n r c)) = _
    rw [turn_at hX hW, Ideal.liftRound_coe]
  have hf : val_main_v130 (F := Ideal) x0 x1 (ix3 n r c) = _ := fptosi_at hc l1 l2
  rw [← hf]
  rfl

end Cert.Hog

end
-- ==== Proof.RefScatter.lean ====
module

public import proofs.«01_k».proof.Proof.RefPhase
public import Idealize.ShloMosaic.Lib.Routing.OpsPair

@[expose] public section

noncomputable section

namespace Cert.Hog

open Idealize.ShloMosaic Idealize.ShloMosaic.ValueIdx Idealize.ShloMosaic.Routing Cert.ReferenceIdeal Cert.ReferenceIdeal.Gen Cert.ReferenceIdeal.Read

/-- The scatter's shape record. -/
abbrev byPixel : ScatterDims S32x10x512x512 S32x512x512x4 S32x512x512 :=
  scatter_S32x10x512x512_S32x512x512x4_S32x512x512_n_0123_0123_3

theorem byPixel_window (k : S32x512x512.Idx) (a : Fin 4) : byPixel.window k a = 0 := by
  match a with
  | ⟨0, _⟩ => rfl
  | ⟨1, _⟩ => rfl
  | ⟨2, _⟩ => rfl
  | ⟨3, _⟩ => rfl

theorem byPixel_start (n : Fin 32) (r c : Fin 512) (idx : IVec S32x512x512x4 32) (a : Fin 4) :
    byPixel.start (ix3 n r c) idx a = (idx (ix4 n r c a)).toInt := by
  have h : ∀ q : Fin byPixel.scatterDimsToOperandDims.length, byPixel.siIdx (ix3 n r c) q = ix4 n r c (⟨q.val, q.isLt⟩ : Fin 4) := fun q =>
    funext fun b => Fin.ext (by
      match b with
      | ⟨0, _⟩ => rfl
      | ⟨1, _⟩ => rfl
      | ⟨2, _⟩ => rfl
      | ⟨3, _⟩ => rfl)
  match a with
  | ⟨0, _⟩ => exact congrArg (fun i => (idx i).toInt) (h ⟨0, by decide⟩)
  | ⟨1, _⟩ => exact congrArg (fun i => (idx i).toInt) (h ⟨1, by decide⟩)
  | ⟨2, _⟩ => exact congrArg (fun i => (idx i).toInt) (h ⟨2, by decide⟩)
  | ⟨3, _⟩ => exact congrArg (fun i => (idx i).toInt) (h ⟨3, by decide⟩)

/-- A pixel's update lands where its four index words say. -/
theorem lands_iff (n : Fin 32) (r c : Fin 512) (idx : IVec S32x512x512x4 32) (y : S32x10x512x512.Idx) :
    byPixel.resultIdx? (ix3 n r c) idx = some y ↔ ∀ a : Fin 4, (idx (ix4 n r c a)).toInt = ((y a).val : ℤ) := by
  rw [resultIdx?_eq_some]
  refine forall_congr' fun a => ?_
  rw [byPixel_window, byPixel_start]
  show _ + ((0 : ℕ) : ℤ) = _ ↔ _
  rw [Nat.cast_zero, add_zero]

/-- Four index words a pixel: its image, a bin, its row and its column. -/
def Indexed (idx : IVec S32x512x512x4 32) (bin : ℕ → ℕ → ℕ → ℕ) : Prop :=
  ∀ (n : Fin 32) (r c : Fin 512), idx (ix4 n r c (0 : Fin 4)) = BitVec.ofNat 32 n.val
    ∧ idx (ix4 n r c (1 : Fin 4)) = BitVec.ofNat 32 (bin n.val r.val c.val)
    ∧ idx (ix4 n r c (2 : Fin 4)) = BitVec.ofNat 32 r.val ∧ idx (ix4 n r c (3 : Fin 4)) = BitVec.ofNat 32 c.val
    ∧ bin n.val r.val c.val < 10

theorem small_toInt {a : ℕ} (h : a < 1024) : (BitVec.ofNat 32 a).toInt = (a : ℤ) := by
  rw [BitVec.toInt_eq_toNat_of_lt (by rw [BitVec.toNat_ofNat]; omega), BitVec.toNat_ofNat]
  congr 1
  omega

/-- So indexed, an update lands at a place exactly when it is that place's pixel and its bin is that place's bin. -/
theorem lands_indexed {idx : IVec S32x512x512x4 32} {bin : ℕ → ℕ → ℕ → ℕ} (h : Indexed idx bin) (n n' : Fin 32) (b : Fin 10) (r r' c c' : Fin 512) :
    byPixel.resultIdx? (ix3 n' r' c') idx = some (ix4 n b r c) ↔ ix3 n' r' c' = ix3 n r c ∧ bin n.val r.val c.val = b.val := by
  have hn := n'.isLt
  have hr := r'.isLt
  have hc := c'.isLt
  obtain ⟨h0, h1, h2, h3, h4⟩ := h n' r' c'
  rw [lands_iff]
  constructor
  · intro q
    have q0 : (idx (ix4 n' r' c' 0)).toInt = (n.val : ℤ) := q 0
    have q1 : (idx (ix4 n' r' c' 1)).toInt = (b.val : ℤ) := q 1
    have q2 : (idx (ix4 n' r' c' 2)).toInt = (r.val : ℤ) := q 2
    have q3 : (idx (ix4 n' r' c' 3)).toInt = (c.val : ℤ) := q 3
    rw [h0, small_toInt (by omega)] at q0
    rw [h1, small_toInt (by omega)] at q1
    rw [h2, small_toInt (by omega)] at q2
    rw [h3, small_toInt (by omega)] at q3
    have e0 : n' = n := Fin.ext (by exact_mod_cast q0)
    have e2 : r' = r := Fin.ext (by exact_mod_cast q2)
    have e3 : c' = c := Fin.ext (by exact_mod_cast q3)
    subst e0 e2 e3
    exact ⟨rfl, by exact_mod_cast q1⟩
  · rintro ⟨e, hb⟩
    have e0 : n' = n := congrFun e 0
    have e2 : r' = r := congrFun e 1
    have e3 : c' = c := congrFun e 2
    subst e0 e2 e3
    intro a
    match a with
    | ⟨0, _⟩ => show (idx (ix4 n' r' c' 0)).toInt = (n'.val : ℤ); rw [h0, small_toInt (by omega)]
    | ⟨1, _⟩ => show (idx (ix4 n' r' c' 1)).toInt = (b.val : ℤ); rw [h1, small_toInt (by omega), hb]
    | ⟨2, _⟩ => show (idx (ix4 n' r' c' 2)).toInt = (r'.val : ℤ); rw [h2, small_toInt (by omega)]
    | ⟨3, _⟩ => show (idx (ix4 n' r' c' 3)).toInt = (c'.val : ℤ); rw [h3, small_toInt (by omega)]

theorem eq_pixel (k : S32x512x512.Idx) : k = ix3 (⟨(k 0).val, (k 0).isLt⟩ : Fin 32) (⟨(k 1).val, (k 1).isLt⟩ : Fin 512) (⟨(k 2).val, (k 2).isLt⟩ : Fin 512) :=
  funext fun a => match a with | ⟨0, _⟩ => rfl | ⟨1, _⟩ => rfl | ⟨2, _⟩ => rfl

/-- A left fold that overwrites at the one place `k₀`, if `P` holds, ends at that place's value, if the place is met. -/
theorem foldl_overwrite {α β : Type} [DecidableEq β] (l : List β) (k₀ : β) (P : Prop) [Decidable P] (C : β → Prop) [DecidablePred C]
    (hC : ∀ k, C k ↔ k = k₀ ∧ P) (v : β → α) (a : α) :
    l.foldl (fun a k => if C k then v k else a) a = if k₀ ∈ l ∧ P then v k₀ else a := by
  induction l generalizing a with
  | nil => simp
  | cons k l ih =>
    rw [List.foldl_cons, ih]
    by_cases hP : P
    · by_cases hk : k = k₀
      · subst hk
        simp [hC, hP]
      · have : ¬ C k := fun h => hk ((hC k).1 h).1
        simp [this, hP, Ne.symm hk]
    · have : ¬ C k := fun h => hP ((hC k).1 h).2
      simp [this, hP]

/-- Overwriting by a scatter so indexed: a place has its pixel's update if the pixel's bin is the place's, else what it had. -/
theorem overwrite_at {idx : IVec S32x512x512x4 32} {bin : ℕ → ℕ → ℕ → ℕ} (h : Indexed idx bin) (x : FVec Ideal S32x10x512x512 .f32)
    (upd : FVec Ideal S32x512x512 .f32) (n : Fin 32) (b : Fin 10) (r c : Fin 512) :
    Host.scatter byPixel (fun _ b => b) x idx upd (ix4 n b r c)
      = if bin n.val r.val c.val = b.val then upd (ix3 n r c) else x (ix4 n b r c) := by
  rw [scatter_at]
  have hC : ∀ k : Fin S32x512x512.numel, byPixel.resultIdx? (S32x512x512.rowMajor.symm k) idx = some (ix4 n b r c)
      ↔ k = S32x512x512.rowMajor (ix3 n r c) ∧ bin n.val r.val c.val = b.val := by
    intro k
    rw [eq_pixel (S32x512x512.rowMajor.symm k), lands_indexed h, ← eq_pixel]
    refine and_congr ?_ Iff.rfl
    rw [Equiv.symm_apply_eq]
  rw [foldl_overwrite (List.finRange S32x512x512.numel) (S32x512x512.rowMajor (ix3 n r c)) (bin n.val r.val c.val = b.val) _ hC
    (fun k => upd (S32x512x512.rowMajor.symm k)) (x (ix4 n b r c))]
  rw [Equiv.symm_apply_apply]
  exact if_congr (and_iff_right (List.mem_finRange _)) rfl rfl

/-- Adding by a scatter so indexed: a place gains its pixel's update if the pixel's bin is the place's. -/
theorem gain_at {idx : IVec S32x512x512x4 32} {bin : ℕ → ℕ → ℕ → ℕ} (h : Indexed idx bin) (x : FVec Ideal S32x10x512x512 .f32)
    (upd : FVec Ideal S32x512x512 .f32) (n : Fin 32) (b : Fin 10) (r c : Fin 512) :
    Host.scatterAdd byPixel x idx upd (ix4 n b r c)
      = x (ix4 n b r c) + if bin n.val r.val c.val = b.val then upd (ix3 n r c) else 0 := by
  show x (ix4 n b r c) + ∑ k ∈ Finset.univ.filter (fun k => byPixel.resultIdx? k idx = some (ix4 n b r c)), upd k = _
  refine congrArg (x (ix4 n b r c) + ·) ?_
  have hC : ∀ k : S32x512x512.Idx, byPixel.resultIdx? k idx = some (ix4 n b r c) ↔ k = ix3 n r c ∧ bin n.val r.val c.val = b.val := by
    intro k
    rw [eq_pixel k, lands_indexed h]
  by_cases hb : bin n.val r.val c.val = b.val
  · rw [if_pos hb]
    rw [show Finset.univ.filter (fun k => byPixel.resultIdx? k idx = some (ix4 n b r c)) = {ix3 n r c} from by
      ext k
      rw [Finset.mem_filter, Finset.mem_singleton, hC]
      exact ⟨fun q => q.2.1, fun q => ⟨Finset.mem_univ _, q, hb⟩⟩]
    rw [Finset.sum_singleton]
  · rw [if_neg hb]
    rw [show Finset.univ.filter (fun k => byPixel.resultIdx? k idx = some (ix4 n b r c)) = ∅ from by
      ext k
      rw [Finset.mem_filter, hC]
      exact ⟨fun q => absurd q.2.2 hb, fun q => absurd q (Finset.notMem_empty k)⟩]
    rw [Finset.sum_empty]

end Cert.Hog

end
-- ==== Proof.RefValue.lean ====
module

public import proofs.«01_k».proof.Proof.RefScatter
public import Idealize.ShloMosaic.Lib.ValueIdxRank6

@[expose] public section

noncomputable section

namespace Cert.Hog

open Idealize.ShloMosaic Idealize.ShloMosaic.ValueIdx Idealize.ShloMosaic.Routing Cert.ReferenceIdeal Cert.ReferenceIdeal.Gen Cert.ReferenceIdeal.Read

/-! ## The two scatters' index words -/

/-- A small index word is not negative, so the wrapping leaves it. -/
theorem unwrapped {a : ℕ} (h : a < 1024) (k : BitVec 32) :
    Scalar.select (IntOp.cmpi .slt (BitVec.ofNat 32 a) 0#32) (IntOp.addi (BitVec.ofNat 32 a) k) (BitVec.ofNat 32 a) = BitVec.ofNat 32 a :=
  wrap_of_lt _ _ (by rw [BitVec.toNat_ofNat]; omega)

/-- Four columns of index words side by side. -/
theorem columns_at (a0 a1 a2 a3 : IVec S32x512x512x1 32)
    (h : Shape.Concatenates [S32x512x512x1, S32x512x512x1, S32x512x512x1, S32x512x512x1] S32x512x512x4 3) (n : Fin 32) (r c : Fin 512) :
    concatenate S32x512x512x4 3 [⟨S32x512x512x1, a0⟩, ⟨S32x512x512x1, a1⟩, ⟨S32x512x512x1, a2⟩, ⟨S32x512x512x1, a3⟩] h (ix4 n r c (0 : Fin 4)) = a0 (ix4 n r c (0 : Fin 1))
    ∧ concatenate S32x512x512x4 3 [⟨S32x512x512x1, a0⟩, ⟨S32x512x512x1, a1⟩, ⟨S32x512x512x1, a2⟩, ⟨S32x512x512x1, a3⟩] h (ix4 n r c (1 : Fin 4)) = a1 (ix4 n r c (0 : Fin 1))
    ∧ concatenate S32x512x512x4 3 [⟨S32x512x512x1, a0⟩, ⟨S32x512x512x1, a1⟩, ⟨S32x512x512x1, a2⟩, ⟨S32x512x512x1, a3⟩] h (ix4 n r c (2 : Fin 4)) = a2 (ix4 n r c (0 : Fin 1))
    ∧ concatenate S32x512x512x4 3 [⟨S32x512x512x1, a0⟩, ⟨S32x512x512x1, a1⟩, ⟨S32x512x512x1, a2⟩, ⟨S32x512x512x1, a3⟩] h (ix4 n r c (3 : Fin 4)) = a3 (ix4 n r c (0 : Fin 1)) := by
  have off : ∀ (q : Fin 4) (b : Fin 4), b ≠ 3 → ((ix4 n r c (0 : Fin 1) : S32x512x512x1.Idx) b).val = ((ix4 n r c q : S32x512x512x4.Idx) b).val := fun q b hb => by
    match b with
    | ⟨0, _⟩ => rfl
    | ⟨1, _⟩ => rfl
    | ⟨2, _⟩ => rfl
    | ⟨3, _⟩ => exact absurd rfl hb
  refine ⟨?_, ?_, ?_, ?_⟩
  · exact concatenate_apply_piece (t := S32x512x512x4) 3
      [⟨S32x512x512x1, a0⟩, ⟨S32x512x512x1, a1⟩, ⟨S32x512x512x1, a2⟩, ⟨S32x512x512x1, a3⟩] h (ix4 n r c (0 : Fin 4)) 0 (by show 0 < 4; omega) S32x512x512x1 a0 rfl rfl 0 rfl (ix4 n r c (0 : Fin 1)) (off 0) rfl
  · exact concatenate_apply_piece (t := S32x512x512x4) 3
      [⟨S32x512x512x1, a0⟩, ⟨S32x512x512x1, a1⟩, ⟨S32x512x512x1, a2⟩, ⟨S32x512x512x1, a3⟩] h (ix4 n r c (1 : Fin 4)) 1 (by show 1 < 4; omega) S32x512x512x1 a1 rfl rfl 1 rfl (ix4 n r c (0 : Fin 1)) (off 1) rfl
  · exact concatenate_apply_piece (t := S32x512x512x4) 3
      [⟨S32x512x512x1, a0⟩, ⟨S32x512x512x1, a1⟩, ⟨S32x512x512x1, a2⟩, ⟨S32x512x512x1, a3⟩] h (ix4 n r c (2 : Fin 4)) 2 (by show 2 < 4; omega) S32x512x512x1 a2 rfl rfl 2 rfl (ix4 n r c (0 : Fin 1)) (off 2) rfl
  · exact concatenate_apply_piece (t := S32x512x512x4) 3
      [⟨S32x512x512x1, a0⟩, ⟨S32x512x512x1, a1⟩, ⟨S32x512x512x1, a2⟩, ⟨S32x512x512x1, a3⟩] h (ix4 n r c (3 : Fin 4)) 3 (by show 3 < 4; omega) S32x512x512x1 a3 rfl rfl 3 rfl (ix4 n r c (0 : Fin 1)) (off 3) rfl

variable {x0 : FVec Ideal S32x1x512x512 .f32} {X : ℕ → ℕ → ℕ → ℝ} {x1 : FVec Ideal S2x1x3x3 .f32}

/-- The bin below a pixel's phase. -/
def lowBin (X : ℕ → ℕ → ℕ → ℝ) (n r c : ℕ) : ℕ := (⌊truePhase (gradX (ringed X) n r c) (gradY (ringed X) n r c)⌋ % 10).toNat

/-- The bin above a pixel's phase. -/
def highBin (X : ℕ → ℕ → ℕ → ℝ) (n r c : ℕ) : ℕ := (⌈truePhase (gradX (ringed X) n r c) (gradY (ringed X) n r c)⌉ % 10).toNat

theorem low_indexed (hX : Image x0 X) (hW : Weights x1 sobel) : Indexed (val_main_v166 (F := Ideal) x0 x1) (lowBin X) := by
  intro n r c
  have hn := n.isLt
  have hr := r.isLt
  have hc := c.isLt
  obtain ⟨q0, q1, q2, q3⟩ := columns_at (val_main_v162 (F := Ideal)) (val_main_v163 (F := Ideal) x0 x1) (val_main_v164 (F := Ideal)) (val_main_v165 (F := Ideal))
    concatenates_S32x512x512x1_S32x512x512x1_S32x512x512x1_S32x512x512x1_S32x512x512x4_d3 n r c
  refine ⟨q0.trans ?_, q1.trans ?_, q2.trans ?_, q3.trans ?_, ?_⟩
  · rw [val_main_v162_apply, val_main_v159_apply, val_main_v143_apply, val_main_v140_apply, val_main_v142_apply, val_main_v133_apply]
    exact unwrapped (a := n.val) (by omega) _
  · rw [val_main_v163_apply]
    exact (congrArg (val_main_v148 (F := Ideal) x0 x1) (funext fun a => match a with | ⟨0, _⟩ => rfl | ⟨1, _⟩ => rfl | ⟨2, _⟩ => rfl)).trans (floor_word_at hX hW n r c)
  · rw [val_main_v164_apply, val_main_v160_apply, val_main_v153_apply, val_main_v150_apply, val_main_v152_apply, val_main_v135_apply]
    exact unwrapped (a := r.val) (by omega) _
  · rw [val_main_v165_apply, val_main_v161_apply, val_main_v158_apply, val_main_v155_apply, val_main_v157_apply, val_main_v137_apply]
    exact unwrapped (a := c.val) (by omega) _
  · unfold lowBin; omega

theorem high_indexed (hX : Image x0 X) (hW : Weights x1 sobel) : Indexed (val_main_v197 (F := Ideal) x0 x1) (highBin X) := by
  intro n r c
  have hn := n.isLt
  have hr := r.isLt
  have hc := c.isLt
  obtain ⟨q0, q1, q2, q3⟩ := columns_at (val_main_v193 (F := Ideal)) (val_main_v194 (F := Ideal) x0 x1) (val_main_v195 (F := Ideal)) (val_main_v196 (F := Ideal))
    concatenates_S32x512x512x1_S32x512x512x1_S32x512x512x1_S32x512x512x1_S32x512x512x4_d3 n r c
  refine ⟨q0.trans ?_, q1.trans ?_, q2.trans ?_, q3.trans ?_, ?_⟩
  · rw [val_main_v193_apply, val_main_v190_apply, val_main_v174_apply, val_main_v171_apply, val_main_v173_apply, val_main_v133_apply]
    exact unwrapped (a := n.val) (by omega) _
  · rw [val_main_v194_apply]
    exact (congrArg (val_main_v179 (F := Ideal) x0 x1) (funext fun a => match a with | ⟨0, _⟩ => rfl | ⟨1, _⟩ => rfl | ⟨2, _⟩ => rfl)).trans (ceil_word_at hX hW n r c)
  · rw [val_main_v195_apply, val_main_v191_apply, val_main_v184_apply, val_main_v181_apply, val_main_v183_apply, val_main_v135_apply]
    exact unwrapped (a := r.val) (by omega) _
  · rw [val_main_v196_apply, val_main_v192_apply, val_main_v189_apply, val_main_v186_apply, val_main_v188_apply, val_main_v137_apply]
    exact unwrapped (a := c.val) (by omega) _
  · unfold highBin; omega

/-! ## A pixel's shares and a cell's mean -/

/-- The pixel's share of a bin, after the two scatters. -/
theorem shares_at (hX : Image x0 X) (hW : Weights x1 sobel) (n : Fin 32) (b : Fin 10) (r c : Fin 512) :
    val_main_v198 (F := Ideal) x0 x1 (ix4 n b r c)
      = ((pixel (gradX (ringed X) n.val r.val c.val) (gradY (ringed X) n.val r.val c.val) b.val : ℝ) : EReal) := by
  have hz : val_main_v138 (F := Ideal) (ix4 n b r c) = ((0 : ℝ) : EReal) := lit_zero
  have hm := magnitude_at hX hW n r c
  have h1 : val_main_v169 (F := Ideal) x0 x1 (ix3 n r c) = _ := sub_at (x := val_main_v168 (F := Ideal)) (y := val_main_v115 (F := Ideal) x0 x1) lit_one hm
  have hl : val_main_v167 (F := Ideal) x0 x1 (ix4 n b r c) = _ := overwrite_at (low_indexed hX hW) _ _ n b r c
  have hg : val_main_v198 (F := Ideal) x0 x1 (ix4 n b r c) = _ := gain_at (high_indexed hX hW) _ _ n b r c
  rw [hg, hl, hz, hm, h1]
  unfold pixel
  have e1 : lowBin X n.val r.val c.val = b.val ↔ ⌊truePhase (gradX (ringed X) n.val r.val c.val) (gradY (ringed X) n.val r.val c.val)⌋ % 10 = (b.val : ℤ) := by
    unfold lowBin; omega
  have e2 : highBin X n.val r.val c.val = b.val ↔ ⌈truePhase (gradX (ringed X) n.val r.val c.val) (gradY (ringed X) n.val r.val c.val)⌉ % 10 = (b.val : ℤ) := by
    unfold highBin; omega
  simp only [e1, e2]
  split_ifs <;> simp only [← EReal.coe_zero, ← EReal.coe_add]

/-- The place, among the reshaped pixels, of pixel `(a, d)` of a cell. -/
abbrev inCell (n : Fin 32) (b : Fin 10) (i j : Fin 64) (a d : Fin 8) : S32x10x64x8x64x8.Idx := ix6 n b i a j d

theorem reshaped_at (hX : Image x0 X) (hW : Weights x1 sobel) (n : Fin 32) (b : Fin 10) (i j : Fin 64) (a d : Fin 8) :
    val_main_v199 (F := Ideal) x0 x1 (inCell n b i j a d)
      = ((pixel (gradX (ringed X) n.val (8 * i.val + a.val) (8 * j.val + d.val)) (gradY (ringed X) n.val (8 * i.val + a.val) (8 * j.val + d.val)) b.val : ℝ) : EReal) := by
  have hi := i.isLt
  have hj := j.isLt
  have ha := a.isLt
  have hd := d.isLt
  unfold val_main_v199
  rw [shapeCast_apply _ _ (inCell n b i j a d) (ix4 n b (⟨8 * i.val + a.val, by omega⟩ : Fin 512) (⟨8 * j.val + d.val, by omega⟩ : Fin 512)) (by
    rw [Shape.rowMajor_val_four, Shape.rowMajor_val_six]
    show ((n.val * 10 + b.val) * 512 + (8 * i.val + a.val)) * 512 + (8 * j.val + d.val)
      = ((((n.val * 10 + b.val) * 64 + i.val) * 8 + a.val) * 64 + j.val) * 8 + d.val
    omega)]
  exact shares_at hX hW n b _ _

/-- A sum over the pixels of one cell. -/
theorem sum_cell (f : S32x10x64x8x64x8.Idx → EReal) (n : Fin 32) (b : Fin 10) (i j : Fin 64) :
    ∑ k ∈ Finset.univ.filter (fun k => reducesTo_S32x10x64x8x64x8_S32x10x64x64_d3_5.drop k = ix4 n b i j), f k
      = ∑ a : Fin 8, ∑ d : Fin 8, f (inCell n b i j a d) := by
  rw [← Finset.sum_product']
  symm
  refine Finset.sum_bij (fun p _ => inCell n b i j p.1 p.2) ?_ ?_ ?_ ?_
  · intro p _
    rw [Finset.mem_filter]
    refine ⟨Finset.mem_univ _, funext fun q => ?_⟩
    match q with
    | ⟨0, _⟩ => rfl
    | ⟨1, _⟩ => rfl
    | ⟨2, _⟩ => rfl
    | ⟨3, _⟩ => rfl
  · intro p _ p' _ e
    exact Prod.ext (congrFun e 3) (congrFun e 5)
  · intro k hk
    have e := (Finset.mem_filter.1 hk).2
    refine ⟨(k 3, k 5), Finset.mem_product.2 ⟨Finset.mem_univ _, Finset.mem_univ _⟩, funext fun q => Fin.ext ?_⟩
    match q with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · intro p _
    rfl

/-- The reference's result, element by element: the mean over a cell of its pixels' shares of a bin. -/
theorem reference_at (hX : Image x0 X) (hW : Weights x1 sobel) (n : Fin 32) (b : Fin 10) (i j : Fin 64) :
    val_main_v202 (F := Ideal) x0 x1 (ix4 n b i j)
      = ((cellMean (fun r c => pixel (gradX (ringed X) n.val r c) (gradY (ringed X) n.val r c) b.val) i.val j.val : ℝ) : EReal) := by
  have hs : val_main_v200 (F := Ideal) x0 x1 (ix4 n b i j)
      = ((∑ a : Fin 8, ∑ d : Fin 8, pixel (gradX (ringed X) n.val (8 * i.val + a.val) (8 * j.val + d.val)) (gradY (ringed X) n.val (8 * i.val + a.val) (8 * j.val + d.val)) b.val : ℝ) : EReal) := by
    show Ideal.ofBits .f32 0x00000000#32 + ∑ k ∈ Finset.univ.filter (fun k => reducesTo_S32x10x64x8x64x8_S32x10x64x64_d3_5.drop k = ix4 n b i j), val_main_v199 (F := Ideal) x0 x1 k = _
    rw [sum_cell, lit_zero, EReal.coe_zero, zero_add, ← coe_sum]
    refine Finset.sum_congr rfl fun a _ => ?_
    rw [← coe_sum]
    exact Finset.sum_congr rfl fun d _ => reshaped_at hX hW n b i j a d
  have hd : val_main_v202 (F := Ideal) x0 x1 (ix4 n b i j) = _ := div_at (x := val_main_v200 (F := Ideal) x0 x1) (y := val_main_v201 (F := Ideal)) hs lit_sixtyfour (by norm_num)
  rw [hd]
  refine congrArg Real.toEReal ?_
  unfold cellMean
  rw [div_eq_mul_inv, Finset.sum_mul]
  refine Finset.sum_congr rfl fun a _ => ?_
  rw [Finset.sum_mul, Finset.sum_mul]
  refine Finset.sum_congr rfl fun d _ => ?_
  ring

end Cert.Hog

end
-- ==== Proof.Agree.lean ====
module

public import proofs.«01_k».proof.Defs
public import proofs.«01_k».proof.Proof.Precondition
public import proofs.«01_k».proof.Proof.Mask
public import proofs.«01_k».proof.Proof.RefValue
public import proofs.«01_k».proof.Proof.Gen.ReferenceIdeal.Run

@[expose] public section

noncomputable section

namespace Cert.Hog

open Idealize.ShloMosaic Idealize.ShloMosaic.ValueIdx Idealize.SL.Sem

/-! ## The kernel and the reference agree on the cells the mask selects -/

/-- An index of the result is its four coordinates. -/
theorem result_index (y : (⟨4, ![32, 10, 64, 64]⟩ : Shape).Idx) : y = ix4 (y 0 : Fin 32) (y 1 : Fin 10) (y 2 : Fin 64) (y 3 : Fin 64) :=
  funext fun a => match a with
    | ⟨0, _⟩ => rfl
    | ⟨1, _⟩ => rfl
    | ⟨2, _⟩ => rfl
    | ⟨3, _⟩ => rfl

/-- Cell means of functions that agree on the cell. -/
theorem cellMean_congr {f g : ℕ → ℕ → ℝ} {i j : ℕ} (h : ∀ a d : Fin 8, f (8 * i + a.val) (8 * j + d.val) = g (8 * i + a.val) (8 * j + d.val)) :
    cellMean f i j = cellMean g i j := by
  unfold cellMean
  refine Finset.sum_congr rfl fun a _ => congrArg (· * (1 / 8 : ℝ)) (Finset.sum_congr rfl fun d _ => congrArg (· * (1 / 8 : ℝ)) (h a d))

/-- On a cell the mask selects, the kernel's value is the reference's. -/
theorem wholeG_eq {x0 : FVec Ideal ReferenceIdeal.S32x1x512x512 .f32} {X : ℕ → ℕ → ℕ → ℝ} (hX : Image x0 X)
    {x1 : FVec Ideal ReferenceIdeal.S2x1x3x3 .f32} (hW : Weights x1 sobel) (y : (⟨4, ![32, 10, 64, 64]⟩ : Shape).Idx)
    (h : On_clear_of_bin_edges.fn (F := Ideal) x0 x1 y = 1#1) :
    wholeG (ringed X) y = ReferenceIdeal.Read.val_main_v202 (F := Ideal) x0 x1 y := by
  rw [result_index y] at h
  refine Eq.trans ?_ (congrArg (ReferenceIdeal.Read.val_main_v202 (F := Ideal) x0 x1) (result_index y)).symm
  refine Eq.trans ?_ (reference_at hX hW (y 0) (y 1) (y 2) (y 3)).symm
  refine congrArg Real.toEReal (cellMean_congr fun a d => ?_)
  exact pixelK_eq (clear_of_mask hX hW h a d) (y 1).val (y 1).isLt

theorem algebraic : algebraic_KernelIdeal_ReferenceIdeal_on_clear_of_bin_edges_pre_finite_image_sobel_weight := by
  intro m g m' g' hp hm
  choose X hX using fun c => image_of_finite (hp c).1
  have hW := fun c => weights_of_sobel (hp c).2
  refine ⟨fun c => ReferenceIdeal.Read.val_main_v202 (F := Ideal)
    (m ((c.tc : Thread KernelIdeal.nD KernelIdeal.τ).loc KernelIdeal.main_arg0)) (m ((c.tc : Thread KernelIdeal.nD KernelIdeal.τ).loc KernelIdeal.main_arg1)), ?_, ?_⟩
  · exact (θ_run KernelIdeal.defs _ _).mono (fun _ h c => ⟨fun i hi => ((h c).1 i).trans (wholeG_eq (hX c) (hW c) i hi), (h c).2⟩) (kernel_run m g X hX)
  · refine (θ_run ReferenceIdeal.defs _ _).mono (fun _ h c => ⟨fun i _ => ?_, (h c).2⟩) (ReferenceIdeal.Value.run (F := Ideal) m' g')
    have e := (h c).1.trans (ReferenceIdeal.Read.val_main_v202_eq (StableHlo.launchContents m' c))
    rw [StableHlo.launchContents_devRef, StableHlo.launchContents_devRef, (hm c).1, (hm c).2] at e
    exact congrFun e i

/-- The reference runs, leaves its arguments and every counter as they were. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run ReferenceIdeal.defs _ _).mono (fun r h => ⟨fun c => (h c).2, sem_eq_zero_of_no_sems (by decide) r.2⟩) (ReferenceIdeal.Value.run (F := Ideal) m g)

end Cert.Hog

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_image_sobel_weight
public import proofs.«01_k».proof.Proof.Gen.On_clear_of_bin_edges
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_image_sobel_weight.Gen.facts, Cert.On_clear_of_bin_edges.Gen.facts,
  fun m ρ _ => Cert.Kernel.Gen.frame m ρ, fun m ρ _ => Cert.KernelIdeal.Gen.frame m ρ, fun m ρ _ => Cert.KernelIdeal.Gen.frame m ρ,
  fun m ρ _ => Cert.Hog.reference_frame m ρ, fun m ρ _ => Cert.Hog.reference_frame m ρ, trivial, Cert.Hog.algebraic⟩

end Cert.Proof

end
